-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_above_neg_inf [hPre_above_neg_inf : Cert.Pre_above_neg_inf.Facts] (m : (ℓ : Loc Cert.KernelIdeal.nD Cert.KernelIdeal.τ Cert.KernelIdeal.sig) → Buf (Elt Ideal) ℓ) : Prop :=
  ∀ c : Dev Cert.KernelIdeal.nD,
    (Cert.Pre_above_neg_inf.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_above_neg_inf [hPre_above_neg_inf : Cert.Pre_above_neg_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_above_neg_inf.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_above_neg_inf [hKernelIdeal : Cert.KernelIdeal.Facts] [hPre_above_neg_inf : Cert.Pre_above_neg_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_above_neg_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_above_neg_inf [hReferenceIdeal : Cert.ReferenceIdeal.Facts] [hPre_above_neg_inf : Cert.Pre_above_neg_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_above_neg_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_above_neg_inf [hKernelIdeal : Cert.KernelIdeal.Facts] [hReferenceIdeal : Cert.ReferenceIdeal.Facts] [hPre_above_neg_inf : Cert.Pre_above_neg_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_above_neg_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_above_neg_inf : Cert.Pre_above_neg_inf.Facts),
    quiescent_Kernel (hKernel := hKernel)
    ∧ quiescent_KernelIdeal (hKernelIdeal := hKernelIdeal)
    ∧ quiescent_KernelIdeal_pre_above_neg_inf (hKernelIdeal := hKernelIdeal) (hPre_above_neg_inf := hPre_above_neg_inf)
    ∧ quiescent_ReferenceIdeal (hReferenceIdeal := hReferenceIdeal)
    ∧ quiescent_ReferenceIdeal_pre_above_neg_inf (hReferenceIdeal := hReferenceIdeal) (hPre_above_neg_inf := hPre_above_neg_inf)
    ∧ preserves_Kernel_KernelIdeal
    ∧ algebraic_KernelIdeal_ReferenceIdeal_pre_above_neg_inf (hKernelIdeal := hKernelIdeal) (hReferenceIdeal := hReferenceIdeal) (hPre_above_neg_inf := hPre_above_neg_inf)
-- ==== Pre_above_neg_inf.lean ====
abbrev S32x4096x2 : Shape := ⟨3, ![32, 4096, 2]⟩
abbrev S_ : Shape := ⟨0, ![]⟩

class Facts : Prop where
  bcast_S_S32x4096x2 : S_.BroadcastsInDim S32x4096x2 (![] : Fin 0 → Fin S32x4096x2.rank)

variable [Facts]

def fn {F : FTy → Type} [FloatOps F] (main_arg0 : FVec F S32x4096x2 .f32) : IVec S32x4096x2 1 :=
  let main_cst : FVec F S_ .f32 := constant S_ .f32 0xFF800000#32
  let main_v0 : FVec F S32x4096x2 .f32 := broadcastInDim S32x4096x2 ![] bcast_S_S32x4096x2 main_cst
  let main_v1 : IVec S32x4096x2 1 := cmpf .ogt main_arg0 main_v0
  main_v1
-- ==== Kernel.lean ====
abbrev S32x4096x2 : Shape := ⟨3, ![32, 4096, 2]⟩
abbrev S32x2x4096 : Shape := ⟨3, ![32, 2, 4096]⟩
abbrev S64x4096 : Shape := ⟨2, ![64, 4096]⟩
abbrev S4096x64 : Shape := ⟨2, ![4096, 64]⟩
abbrev S_ : Shape := ⟨0, ![]⟩
abbrev S1 : Shape := ⟨1, ![1]⟩
abbrev S2 : Shape := ⟨1, ![2]⟩
abbrev S1x1x1 : Shape := ⟨3, ![1, 1, 1]⟩
abbrev S1x64x4096 : Shape := ⟨3, ![1, 64, 4096]⟩
abbrev S1x32x2x4096 : Shape := ⟨4, ![1, 32, 2, 4096]⟩
abbrev S1x32x4096x2 : Shape := ⟨4, ![1, 32, 4096, 2]⟩
abbrev S2048x32x128 : Shape := ⟨3, ![2048, 32, 128]⟩
abbrev S256x8x128 : Shape := ⟨3, ![256, 8, 128]⟩
abbrev S1x128 : Shape := ⟨2, ![1, 128]⟩
abbrev S33x128 : Shape := ⟨2, ![33, 128]⟩
abbrev S32x128 : Shape := ⟨2, ![32, 128]⟩
abbrev S8x64 : Shape := ⟨2, ![8, 64]⟩
abbrev S1x64 : Shape := ⟨2, ![1, 64]⟩
abbrev S1x32x128 : Shape := ⟨3, ![1, 32, 128]⟩
abbrev S32x64 : Shape := ⟨2, ![32, 64]⟩
abbrev S128 : Shape := ⟨1, ![128]⟩
abbrev S8x128 : Shape := ⟨2, ![8, 128]⟩
abbrev S1x8x128 : Shape := ⟨3, ![1, 8, 128]⟩
abbrev S256x8x64 : Shape := ⟨3, ![256, 8, 64]⟩
abbrev S2048x64 : Shape := ⟨2, ![2048, 64]⟩
abbrev S64 : Shape := ⟨1, ![64]⟩
abbrev S64x1 : Shape := ⟨2, ![64, 1]⟩

abbrev nBuf : Space → Nat
  | .hbm => 300
  | .vmem => 9
  | .smem => 0
  | _ => 0

abbrev hbmTy0_0 (i : Nat) : BufTy := match i % 128 with
  | 0 => ⟨S32x4096x2, .f32⟩
  | 1 => ⟨S32x2x4096, .f32⟩
  | 2 => ⟨S64x4096, .f32⟩
  | 3 => ⟨S4096x64, .f32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S_, .f32⟩
  | 15 => ⟨S_, .f32⟩
  | 16 => ⟨S_, .f32⟩
  | 17 => ⟨S_, .f32⟩
  | 18 => ⟨S1x1x1, .f32⟩
  | 19 => ⟨S1x1x1, .f32⟩
  | 20 => ⟨S1, .i32⟩
  | 21 => ⟨S_, .i32⟩
  | 22 => ⟨S1, .i32⟩
  | 23 => ⟨S_, .i32⟩
  | 24 => ⟨S1x64x4096, .i64⟩
  | 25 => ⟨S1x64x4096, .i64⟩
  | 26 => ⟨S1x64x4096, .i64⟩
  | 27 => ⟨S_, .i64⟩
  | 28 => ⟨S1x64x4096, .i64⟩
  | 29 => ⟨S1x64x4096, .i64⟩
  | 30 => ⟨S_, .i64⟩
  | 31 => ⟨S1x64x4096, .i64⟩
  | 32 => ⟨S1x64x4096, .i64⟩
  | 33 => ⟨S_, .i64⟩
  | 34 => ⟨S1x64x4096, .i64⟩
  | 35 => ⟨S1x64x4096, .i64⟩
  | 36 => ⟨S1x64x4096, .i64⟩
  | 37 => ⟨S1x64x4096, .i64⟩
  | 38 => ⟨S_, .i64⟩
  | 39 => ⟨S1x64x4096, .i64⟩
  | 40 => ⟨S1x64x4096, .i64⟩
  | 41 => ⟨S1x64x4096, .i32⟩
  | 42 => ⟨S1x64x4096, .i32⟩
  | 43 => ⟨S_, .i32⟩
  | 44 => ⟨S_, .i32⟩
  | 45 => ⟨S_, .i32⟩
  | 46 => ⟨S1x64x4096, .i32⟩
  | 47 => ⟨S1x64x4096, .i32⟩
  | 48 => ⟨S1x64x4096, .i32⟩
  | 49 => ⟨S1x64x4096, .i32⟩
  | 50 => ⟨S1x64x4096, .i32⟩
  | 51 => ⟨S_, .i32⟩
  | 52 => ⟨S1x64x4096, .i32⟩
  | 53 => ⟨S1x64x4096, .i32⟩
  | 54 => ⟨S_, .i32⟩
  | 55 => ⟨S1x64x4096, .i32⟩
  | 56 => ⟨S1x64x4096, .i32⟩
  | 57 => ⟨S1x64x4096, .i32⟩
  | 58 => ⟨S1x64x4096, .i32⟩
  | 59 => ⟨S1x64x4096, .i32⟩
  | 60 => ⟨S_, .i32⟩
  | 61 => ⟨S1x64x4096, .i32⟩
  | 62 => ⟨S1x64x4096, .i32⟩
  | 63 => ⟨S_, .i32⟩
  | 64 => ⟨S1x64x4096, .i32⟩
  | 65 => ⟨S1x64x4096, .i32⟩
  | 66 => ⟨S1x64x4096, .i32⟩
  | 67 => ⟨S1x64x4096, .i32⟩
  | 68 => ⟨S1x64x4096, .i32⟩
  | 69 => ⟨S_, .i32⟩
  | 70 => ⟨S1x64x4096, .i32⟩
  | 71 => ⟨S1x64x4096, .i32⟩
  | 72 => ⟨S_, .i32⟩
  | 73 => ⟨S1x64x4096, .i32⟩
  | 74 => ⟨S1x64x4096, .i32⟩
  | 75 => ⟨S1x64x4096, .i32⟩
  | 76 => ⟨S1x64x4096, .i32⟩
  | 77 => ⟨S1x64x4096, .i32⟩
  | 78 => ⟨S_, .i32⟩
  | 79 => ⟨S1x64x4096, .i32⟩
  | 80 => ⟨S1x64x4096, .i32⟩
  | 81 => ⟨S_, .i32⟩
  | 82 => ⟨S1x64x4096, .i32⟩
  | 83 => ⟨S1x64x4096, .i32⟩
  | 84 => ⟨S1x64x4096, .i32⟩
  | 85 => ⟨S1x64x4096, .i32⟩
  | 86 => ⟨S1x64x4096, .i32⟩
  | 87 => ⟨S1x64x4096, .i32⟩
  | 88 => ⟨S1x64x4096, .i32⟩
  | 89 => ⟨S1x64x4096, .i32⟩
  | 90 => ⟨S_, .i32⟩
  | 91 => ⟨S1x64x4096, .i32⟩
  | 92 => ⟨S1x64x4096, .i32⟩
  | 93 => ⟨S1x64x4096, .i32⟩
  | 94 => ⟨S_, .i32⟩
  | 95 => ⟨S1x64x4096, .i32⟩
  | 96 => ⟨S1x64x4096, .i32⟩
  | 97 => ⟨S_, .i32⟩
  | 98 => ⟨S1x64x4096, .i32⟩
  | 99 => ⟨S1x64x4096, .i32⟩
  | 100 => ⟨S1x64x4096, .i32⟩
  | 101 => ⟨S1x64x4096, .i32⟩
  | 102 => ⟨S1x64x4096, .i32⟩
  | 103 => ⟨S_, .i32⟩
  | 104 => ⟨S1x64x4096, .i32⟩
  | 105 => ⟨S1x64x4096, .i32⟩
  | 106 => ⟨S_, .i32⟩
  | 107 => ⟨S1x64x4096, .i32⟩
  | 108 => ⟨S1x64x4096, .i32⟩
  | 109 => ⟨S1x64x4096, .i32⟩
  | 110 => ⟨S1x64x4096, .i32⟩
  | 111 => ⟨S1x64x4096, .i32⟩
  | 112 => ⟨S_, .i32⟩
  | 113 => ⟨S1x64x4096, .i32⟩
  | 114 => ⟨S1x64x4096, .i32⟩
  | 115 => ⟨S_, .i32⟩
  | 116 => ⟨S1x64x4096, .i32⟩
  | 117 => ⟨S1x64x4096, .i32⟩
  | 118 => ⟨S1x64x4096, .i32⟩
  | 119 => ⟨S1x64x4096, .i32⟩
  | 120 => ⟨S1x64x4096, .i32⟩
  | 121 => ⟨S_, .i32⟩
  | 122 => ⟨S1x64x4096, .i32⟩
  | 123 => ⟨S1x64x4096, .i32⟩
  | 124 => ⟨S_, .i32⟩
  | 125 => ⟨S1x64x4096, .i32⟩
  | 126 => ⟨S1x64x4096, .i32⟩
  | 127 => ⟨S1x64x4096, .i32⟩
  | _ => ⟨S32x4096x2, .f32⟩

abbrev hbmTy0_1 (i : Nat) : BufTy := match i % 128 with
  | 0 => ⟨S1x64x4096, .i32⟩
  | 1 => ⟨S1x64x4096, .i32⟩
  | 2 => ⟨S1x64x4096, .i32⟩
  | 3 => ⟨S1x64x4096, .i32⟩
  | 4 => ⟨S1x64x4096, .i32⟩
  | 5 => ⟨S_, .i32⟩
  | 6 => ⟨S1x64x4096, .i32⟩
  | 7 => ⟨S1x64x4096, .i32⟩
  | 8 => ⟨S1x64x4096, .i32⟩
  | 9 => ⟨S_, .i32⟩
  | 10 => ⟨S1x64x4096, .i32⟩
  | 11 => ⟨S1x64x4096, .i32⟩
  | 12 => ⟨S_, .i32⟩
  | 13 => ⟨S1x64x4096, .i32⟩
  | 14 => ⟨S1x64x4096, .i32⟩
  | 15 => ⟨S1x64x4096, .i32⟩
  | 16 => ⟨S1x64x4096, .i32⟩
  | 17 => ⟨S1x64x4096, .i32⟩
  | 18 => ⟨S_, .i32⟩
  | 19 => ⟨S1x64x4096, .i32⟩
  | 20 => ⟨S1x64x4096, .i32⟩
  | 21 => ⟨S_, .i32⟩
  | 22 => ⟨S1x64x4096, .i32⟩
  | 23 => ⟨S1x64x4096, .i32⟩
  | 24 => ⟨S1x64x4096, .i32⟩
  | 25 => ⟨S1x64x4096, .i32⟩
  | 26 => ⟨S1x64x4096, .i32⟩
  | 27 => ⟨S_, .i32⟩
  | 28 => ⟨S1x64x4096, .i32⟩
  | 29 => ⟨S1x64x4096, .i32⟩
  | 30 => ⟨S_, .i32⟩
  | 31 => ⟨S1x64x4096, .i32⟩
  | 32 => ⟨S1x64x4096, .i32⟩
  | 33 => ⟨S1x64x4096, .i32⟩
  | 34 => ⟨S1x64x4096, .i32⟩
  | 35 => ⟨S1x64x4096, .i32⟩
  | 36 => ⟨S_, .i32⟩
  | 37 => ⟨S1x64x4096, .i32⟩
  | 38 => ⟨S1x64x4096, .i32⟩
  | 39 => ⟨S_, .i32⟩
  | 40 => ⟨S1x64x4096, .i32⟩
  | 41 => ⟨S1x64x4096, .i32⟩
  | 42 => ⟨S1x64x4096, .i32⟩
  | 43 => ⟨S1x64x4096, .i32⟩
  | 44 => ⟨S1x64x4096, .i32⟩
  | 45 => ⟨S1x64x4096, .i32⟩
  | 46 => ⟨S1x64x4096, .i32⟩
  | 47 => ⟨S1x64x4096, .i32⟩
  | 48 => ⟨S_, .i32⟩
  | 49 => ⟨S1x64x4096, .i32⟩
  | 50 => ⟨S1x64x4096, .i32⟩
  | 51 => ⟨S1x64x4096, .i32⟩
  | 52 => ⟨S_, .i32⟩
  | 53 => ⟨S1x64x4096, .i32⟩
  | 54 => ⟨S1x64x4096, .i32⟩
  | 55 => ⟨S_, .i32⟩
  | 56 => ⟨S1x64x4096, .i32⟩
  | 57 => ⟨S1x64x4096, .i32⟩
  | 58 => ⟨S1x64x4096, .i32⟩
  | 59 => ⟨S1x64x4096, .i32⟩
  | 60 => ⟨S1x64x4096, .i32⟩
  | 61 => ⟨S_, .i32⟩
  | 62 => ⟨S1x64x4096, .i32⟩
  | 63 => ⟨S1x64x4096, .i32⟩
  | 64 => ⟨S_, .i32⟩
  | 65 => ⟨S1x64x4096, .i32⟩
  | 66 => ⟨S1x64x4096, .i32⟩
  | 67 => ⟨S1x64x4096, .i32⟩
  | 68 => ⟨S1x64x4096, .i32⟩
  | 69 => ⟨S1x64x4096, .i32⟩
  | 70 => ⟨S_, .i32⟩
  | 71 => ⟨S1x64x4096, .i32⟩
  | 72 => ⟨S1x64x4096, .i32⟩
  | 73 => ⟨S_, .i32⟩
  | 74 => ⟨S1x64x4096, .i32⟩
  | 75 => ⟨S1x64x4096, .i32⟩
  | 76 => ⟨S1x64x4096, .i32⟩
  | 77 => ⟨S1x64x4096, .i32⟩
  | 78 => ⟨S1x64x4096, .i32⟩
  | 79 => ⟨S_, .i32⟩
  | 80 => ⟨S1x64x4096, .i32⟩
  | 81 => ⟨S1x64x4096, .i32⟩
  | 82 => ⟨S_, .i32⟩
  | 83 => ⟨S1x64x4096, .i32⟩
  | 84 => ⟨S1x64x4096, .i32⟩
  | 85 => ⟨S1x64x4096, .i32⟩
  | 86 => ⟨S1x64x4096, .i32⟩
  | 87 => ⟨S1x64x4096, .i32⟩
  | 88 => ⟨S1x64x4096, .i32⟩
  | 89 => ⟨S1x64x4096, .i32⟩
  | 90 => ⟨S1x64x4096, .i32⟩
  | 91 => ⟨S_, .i32⟩
  | 92 => ⟨S1x64x4096, .i32⟩
  | 93 => ⟨S1x64x4096, .i32⟩
  | 94 => ⟨S1x64x4096, .i32⟩
  | 95 => ⟨S_, .i32⟩
  | 96 => ⟨S1x64x4096, .i32⟩
  | 97 => ⟨S1x64x4096, .i32⟩
  | 98 => ⟨S_, .i32⟩
  | 99 => ⟨S1x64x4096, .i32⟩
  | 100 => ⟨S1x64x4096, .i32⟩
  | 101 => ⟨S1x64x4096, .i32⟩
  | 102 => ⟨S1x64x4096, .i32⟩
  | 103 => ⟨S1x64x4096, .i32⟩
  | 104 => ⟨S_, .i32⟩
  | 105 => ⟨S1x64x4096, .i32⟩
  | 106 => ⟨S1x64x4096, .i32⟩
  | 107 => ⟨S_, .i32⟩
  | 108 => ⟨S1x64x4096, .i32⟩
  | 109 => ⟨S1x64x4096, .i32⟩
  | 110 => ⟨S1x64x4096, .i32⟩
  | 111 => ⟨S1x64x4096, .i32⟩
  | 112 => ⟨S1x64x4096, .i32⟩
  | 113 => ⟨S_, .i32⟩
  | 114 => ⟨S1x64x4096, .i32⟩
  | 115 => ⟨S1x64x4096, .i32⟩
  | 116 => ⟨S_, .i32⟩
  | 117 => ⟨S1x64x4096, .i32⟩
  | 118 => ⟨S1x64x4096, .i32⟩
  | 119 => ⟨S1x64x4096, .i32⟩
  | 120 => ⟨S1x64x4096, .i32⟩
  | 121 => ⟨S1x64x4096, .i32⟩
  | 122 => ⟨S_, .i32⟩
  | 123 => ⟨S1x64x4096, .i32⟩
  | 124 => ⟨S1x64x4096, .i32⟩
  | 125 => ⟨S_, .i32⟩
  | 126 => ⟨S1x64x4096, .i32⟩
  | 127 => ⟨S1x64x4096, .i32⟩
  | _ => ⟨S32x4096x2, .f32⟩

abbrev hbmTy0_2 (i : Nat) : BufTy := match i % 128 with
  | 0 => ⟨S1x64x4096, .i32⟩
  | 1 => ⟨S1x64x4096, .i32⟩
  | 2 => ⟨S1x64x4096, .i32⟩
  | 3 => ⟨S1x64x4096, .i32⟩
  | 4 => ⟨S1x64x4096, .i32⟩
  | 5 => ⟨S1x64x4096, .i32⟩
  | 6 => ⟨S_, .i32⟩
  | 7 => ⟨S1x64x4096, .i32⟩
  | 8 => ⟨S1x64x4096, .i32⟩
  | 9 => ⟨S1x64x4096, .i32⟩
  | 10 => ⟨S_, .i32⟩
  | 11 => ⟨S1x64x4096, .i32⟩
  | 12 => ⟨S1x64x4096, .i32⟩
  | 13 => ⟨S_, .i32⟩
  | 14 => ⟨S1x64x4096, .i32⟩
  | 15 => ⟨S1x64x4096, .i32⟩
  | 16 => ⟨S1x64x4096, .f32⟩
  | 17 => ⟨S_, .f32⟩
  | 18 => ⟨S1x64x4096, .f32⟩
  | 19 => ⟨S1x64x4096, .f32⟩
  | 20 => ⟨S1x1x1, .f32⟩
  | 21 => ⟨S1x64x4096, .f32⟩
  | 22 => ⟨S1x64x4096, .f32⟩
  | 23 => ⟨S1x64x4096, .f32⟩
  | 24 => ⟨S1x64x4096, .f32⟩
  | 25 => ⟨S1x64x4096, .f32⟩
  | 26 => ⟨S1x64x4096, .f32⟩
  | 27 => ⟨S1x64x4096, .f32⟩
  | 28 => ⟨S1x64x4096, .f32⟩
  | 29 => ⟨S1x64x4096, .f32⟩
  | 30 => ⟨S1x64x4096, .f32⟩
  | 31 => ⟨S64x4096, .f32⟩
  | 32 => ⟨S4096x64, .f32⟩
  | 33 => ⟨S64x4096, .f32⟩
  | 34 => ⟨S64x4096, .f32⟩
  | 35 => ⟨S1x64x4096, .f32⟩
  | 36 => ⟨S1x64x4096, .f32⟩
  | 37 => ⟨S1x64x4096, .f32⟩
  | 38 => ⟨S1x64x4096, .f32⟩
  | 39 => ⟨S1x64x4096, .f32⟩
  | 40 => ⟨S1x32x2x4096, .f32⟩
  | 41 => ⟨S1x32x4096x2, .f32⟩
  | 42 => ⟨S32x2x4096, .f32⟩
  | 43 => ⟨S32x4096x2, .f32⟩
  | _ => ⟨S32x4096x2, .f32⟩

abbrev hbmTy (i : Nat) : BufTy := match i / 128 with
  | 0 => hbmTy0_0 i
  | 1 => hbmTy0_1 i
  | 2 => hbmTy0_2 i
  | _ => ⟨S32x4096x2, .f32⟩

abbrev bufTy : (tb : Table) → Fin (tcTables nBuf tb) → BufTy
  | .hbm, ⟨i, _⟩ => hbmTy i
  | .local _ .vmem, ⟨0, _⟩ => ⟨S4096x64, .f32⟩
  | .local _ .vmem, ⟨1, _⟩ => ⟨S64x4096, .f32⟩
  | .local _ .vmem, ⟨2, _⟩ => ⟨S64x4096, .f32⟩
  | .local _ .vmem, ⟨3, _⟩ => ⟨S4096x64, .f32⟩
  | .local _ .vmem, ⟨4, _⟩ => ⟨S64x4096, .f32⟩
  | .local _ .vmem, ⟨5, _⟩ => ⟨S2048x32x128, .f32⟩
  | .local _ .vmem, ⟨6, _⟩ => ⟨S256x8x128, .f32⟩
  | .local _ .vmem, ⟨7, _⟩ => ⟨S256x8x128, .f32⟩
  | .local _ .vmem, ⟨8, _⟩ => ⟨S64x4096, .f32⟩
  | _, _ => ⟨S32x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_c : Ref sig .tc := ⟨.hbm, 4, rfl⟩
abbrev main_call0_c_0 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_c_1 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_cst : Ref sig .tc := ⟨.hbm, 14, rfl⟩
abbrev main_call0_cst_2 : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_c : Ref sig .tc := ⟨.hbm, 27, rfl⟩
abbrev main_call0_call0_v11 : Ref sig .tc := ⟨.hbm, 28, rfl⟩
abbrev main_call0_call0_v12 : Ref sig .tc := ⟨.hbm, 29, rfl⟩
abbrev main_call0_call0_c_0 : Ref sig .tc := ⟨.hbm, 30, rfl⟩
abbrev main_call0_call0_v13 : Ref sig .tc := ⟨.hbm, 31, rfl⟩
abbrev main_call0_call0_v14 : Ref sig .tc := ⟨.hbm, 32, rfl⟩
abbrev main_call0_call0_c_1 : Ref sig .tc := ⟨.hbm, 33, rfl⟩
abbrev main_call0_call0_v15 : Ref sig .tc := ⟨.hbm, 34, rfl⟩
abbrev main_call0_call0_v16 : Ref sig .tc := ⟨.hbm, 35, rfl⟩
abbrev main_call0_call0_v17 : Ref sig .tc := ⟨.hbm, 36, rfl⟩
abbrev main_call0_call0_v18 : Ref sig .tc := ⟨.hbm, 37, rfl⟩
abbrev main_call0_call0_c_2 : Ref sig .tc := ⟨.hbm, 38, rfl⟩
abbrev main_call0_call0_v19 : Ref sig .tc := ⟨.hbm, 39, rfl⟩
abbrev main_call0_call0_v20 : Ref sig .tc := ⟨.hbm, 40, rfl⟩
abbrev main_call0_call0_v21 : Ref sig .tc := ⟨.hbm, 41, rfl⟩
abbrev main_call0_call0_v22 : Ref sig .tc := ⟨.hbm, 42, rfl⟩
abbrev main_call0_call0_call0_v0 : Ref sig .tc := ⟨.hbm, 43, rfl⟩
abbrev main_call0_call0_call0_c : Ref sig .tc := ⟨.hbm, 44, rfl⟩
abbrev main_call0_call0_call0_v1 : Ref sig .tc := ⟨.hbm, 45, rfl⟩
abbrev main_call0_call0_call0_v2 : Ref sig .tc := ⟨.hbm, 46, rfl⟩
abbrev main_call0_call0_call0_v3 : Ref sig .tc := ⟨.hbm, 47, rfl⟩
abbrev main_call0_call0_call0_v4 : Ref sig .tc := ⟨.hbm, 48, rfl⟩
abbrev main_call0_call0_call0_v5 : Ref sig .tc := ⟨.hbm, 49, rfl⟩
abbrev main_call0_call0_call0_v6 : Ref sig .tc := ⟨.hbm, 50, rfl⟩
abbrev main_call0_call0_call0_c_0 : Ref sig .tc := ⟨.hbm, 51, rfl⟩
abbrev main_call0_call0_call0_v7 : Ref sig .tc := ⟨.hbm, 52, rfl⟩
abbrev main_call0_call0_call0_v8 : Ref sig .tc := ⟨.hbm, 53, rfl⟩
abbrev main_call0_call0_call0_c_1 : Ref sig .tc := ⟨.hbm, 54, rfl⟩
abbrev main_call0_call0_call0_v9 : Ref sig .tc := ⟨.hbm, 55, rfl⟩
abbrev main_call0_call0_call0_v10 : Ref sig .tc := ⟨.hbm, 56, rfl⟩
abbrev main_call0_call0_call0_v11 : Ref sig .tc := ⟨.hbm, 57, rfl⟩
abbrev main_call0_call0_call0_v12 : Ref sig .tc := ⟨.hbm, 58, rfl⟩
abbrev main_call0_call0_call0_v13 : Ref sig .tc := ⟨.hbm, 59, rfl⟩
abbrev main_call0_call0_call0_c_2 : Ref sig .tc := ⟨.hbm, 60, rfl⟩
abbrev main_call0_call0_call0_v14 : Ref sig .tc := ⟨.hbm, 61, rfl⟩
abbrev main_call0_call0_call0_v15 : Ref sig .tc := ⟨.hbm, 62, rfl⟩
abbrev main_call0_call0_call0_c_3 : Ref sig .tc := ⟨.hbm, 63, rfl⟩
abbrev main_call0_call0_call0_v16 : Ref sig .tc := ⟨.hbm, 64, rfl⟩
abbrev main_call0_call0_call0_v17 : Ref sig .tc := ⟨.hbm, 65, rfl⟩
abbrev main_call0_call0_call0_v18 : Ref sig .tc := ⟨.hbm, 66, rfl⟩
abbrev main_call0_call0_call0_v19 : Ref sig .tc := ⟨.hbm, 67, rfl⟩
abbrev main_call0_call0_call0_v20 : Ref sig .tc := ⟨.hbm, 68, rfl⟩
abbrev main_call0_call0_call0_c_4 : Ref sig .tc := ⟨.hbm, 69, rfl⟩
abbrev main_call0_call0_call0_v21 : Ref sig .tc := ⟨.hbm, 70, rfl⟩
abbrev main_call0_call0_call0_v22 : Ref sig .tc := ⟨.hbm, 71, rfl⟩
abbrev main_call0_call0_call0_c_5 : Ref sig .tc := ⟨.hbm, 72, rfl⟩
abbrev main_call0_call0_call0_v23 : Ref sig .tc := ⟨.hbm, 73, rfl⟩
abbrev main_call0_call0_call0_v24 : Ref sig .tc := ⟨.hbm, 74, rfl⟩
abbrev main_call0_call0_call0_v25 : Ref sig .tc := ⟨.hbm, 75, rfl⟩
abbrev main_call0_call0_call0_v26 : Ref sig .tc := ⟨.hbm, 76, rfl⟩
abbrev main_call0_call0_call0_v27 : Ref sig .tc := ⟨.hbm, 77, rfl⟩
abbrev main_call0_call0_call0_c_6 : Ref sig .tc := ⟨.hbm, 78, rfl⟩
abbrev main_call0_call0_call0_v28 : Ref sig .tc := ⟨.hbm, 79, rfl⟩
abbrev main_call0_call0_call0_v29 : Ref sig .tc := ⟨.hbm, 80, rfl⟩
abbrev main_call0_call0_call0_c_7 : Ref sig .tc := ⟨.hbm, 81, rfl⟩
abbrev main_call0_call0_call0_v30 : Ref sig .tc := ⟨.hbm, 82, rfl⟩
abbrev main_call0_call0_call0_v31 : Ref sig .tc := ⟨.hbm, 83, rfl⟩
abbrev main_call0_call0_call0_v32 : Ref sig .tc := ⟨.hbm, 84, rfl⟩
abbrev main_call0_call0_call0_v33 : Ref sig .tc := ⟨.hbm, 85, rfl⟩
abbrev main_call0_call0_call0_v34 : Ref sig .tc := ⟨.hbm, 86, rfl⟩
abbrev main_call0_call0_call0_v35 : Ref sig .tc := ⟨.hbm, 87, rfl⟩
abbrev main_call0_call0_call0_v36 : Ref sig .tc := ⟨.hbm, 88, rfl⟩
abbrev main_call0_call0_call0_v37 : Ref sig .tc := ⟨.hbm, 89, rfl⟩
abbrev main_call0_call0_call0_c_8 : Ref sig .tc := ⟨.hbm, 90, rfl⟩
abbrev main_call0_call0_call0_v38 : Ref sig .tc := ⟨.hbm, 91, rfl⟩
abbrev main_call0_call0_call0_v39 : Ref sig .tc := ⟨.hbm, 92, rfl⟩
abbrev main_call0_call0_call0_v40 : Ref sig .tc := ⟨.hbm, 93, rfl⟩
abbrev main_call0_call0_call0_c_9 : Ref sig .tc := ⟨.hbm, 94, rfl⟩
abbrev main_call0_call0_call0_v41 : Ref sig .tc := ⟨.hbm, 95, rfl⟩
abbrev main_call0_call0_call0_v42 : Ref sig .tc := ⟨.hbm, 96, rfl⟩
abbrev main_call0_call0_call0_c_10 : Ref sig .tc := ⟨.hbm, 97, rfl⟩
abbrev main_call0_call0_call0_v43 : Ref sig .tc := ⟨.hbm, 98, rfl⟩
abbrev main_call0_call0_call0_v44 : Ref sig .tc := ⟨.hbm, 99, rfl⟩
abbrev main_call0_call0_call0_v45 : Ref sig .tc := ⟨.hbm, 100, rfl⟩
abbrev main_call0_call0_call0_v46 : Ref sig .tc := ⟨.hbm, 101, rfl⟩
abbrev main_call0_call0_call0_v47 : Ref sig .tc := ⟨.hbm, 102, rfl⟩
abbrev main_call0_call0_call0_c_11 : Ref sig .tc := ⟨.hbm, 103, rfl⟩
abbrev main_call0_call0_call0_v48 : Ref sig .tc := ⟨.hbm, 104, rfl⟩
abbrev main_call0_call0_call0_v49 : Ref sig .tc := ⟨.hbm, 105, rfl⟩
abbrev main_call0_call0_call0_c_12 : Ref sig .tc := ⟨.hbm, 106, rfl⟩
abbrev main_call0_call0_call0_v50 : Ref sig .tc := ⟨.hbm, 107, rfl⟩
abbrev main_call0_call0_call0_v51 : Ref sig .tc := ⟨.hbm, 108, rfl⟩
abbrev main_call0_call0_call0_v52 : Ref sig .tc := ⟨.hbm, 109, rfl⟩
abbrev main_call0_call0_call0_v53 : Ref sig .tc := ⟨.hbm, 110, rfl⟩
abbrev main_call0_call0_call0_v54 : Ref sig .tc := ⟨.hbm, 111, rfl⟩
abbrev main_call0_call0_call0_c_13 : Ref sig .tc := ⟨.hbm, 112, rfl⟩
abbrev main_call0_call0_call0_v55 : Ref sig .tc := ⟨.hbm, 113, rfl⟩
abbrev main_call0_call0_call0_v56 : Ref sig .tc := ⟨.hbm, 114, rfl⟩
abbrev main_call0_call0_call0_c_14 : Ref sig .tc := ⟨.hbm, 115, rfl⟩
abbrev main_call0_call0_call0_v57 : Ref sig .tc := ⟨.hbm, 116, rfl⟩
abbrev main_call0_call0_call0_v58 : Ref sig .tc := ⟨.hbm, 117, rfl⟩
abbrev main_call0_call0_call0_v59 : Ref sig .tc := ⟨.hbm, 118, rfl⟩
abbrev main_call0_call0_call0_v60 : Ref sig .tc := ⟨.hbm, 119, rfl⟩
abbrev main_call0_call0_call0_v61 : Ref sig .tc := ⟨.hbm, 120, rfl⟩
abbrev main_call0_call0_call0_c_15 : Ref sig .tc := ⟨.hbm, 121, rfl⟩
abbrev main_call0_call0_call0_v62 : Ref sig .tc := ⟨.hbm, 122, rfl⟩
abbrev main_call0_call0_call0_v63 : Ref sig .tc := ⟨.hbm, 123, rfl⟩
abbrev main_call0_call0_call0_c_16 : Ref sig .tc := ⟨.hbm, 124, rfl⟩
abbrev main_call0_call0_call0_v64 : Ref sig .tc := ⟨.hbm, 125, rfl⟩
abbrev main_call0_call0_call0_v65 : Ref sig .tc := ⟨.hbm, 126, rfl⟩
abbrev main_call0_call0_call0_v66 : Ref sig .tc := ⟨.hbm, 127, rfl⟩
abbrev main_call0_call0_call0_v67 : Ref sig .tc := ⟨.hbm, 128, rfl⟩
abbrev main_call0_call0_call0_v68 : Ref sig .tc := ⟨.hbm, 129, rfl⟩
abbrev main_call0_call0_call0_v69 : Ref sig .tc := ⟨.hbm, 130, rfl⟩
abbrev main_call0_call0_call0_v70 : Ref sig .tc := ⟨.hbm, 131, rfl⟩
abbrev main_call0_call0_call0_v71 : Ref sig .tc := ⟨.hbm, 132, rfl⟩
abbrev main_call0_call0_call0_c_17 : Ref sig .tc := ⟨.hbm, 133, rfl⟩
abbrev main_call0_call0_call0_v72 : Ref sig .tc := ⟨.hbm, 134, rfl⟩
abbrev main_call0_call0_call0_v73 : Ref sig .tc := ⟨.hbm, 135, rfl⟩
abbrev main_call0_call0_call0_v74 : Ref sig .tc := ⟨.hbm, 136, rfl⟩
abbrev main_call0_call0_call0_c_18 : Ref sig .tc := ⟨.hbm, 137, rfl⟩
abbrev main_call0_call0_call0_v75 : Ref sig .tc := ⟨.hbm, 138, rfl⟩
abbrev main_call0_call0_call0_v76 : Ref sig .tc := ⟨.hbm, 139, rfl⟩
abbrev main_call0_call0_call0_c_19 : Ref sig .tc := ⟨.hbm, 140, rfl⟩
abbrev main_call0_call0_call0_v77 : Ref sig .tc := ⟨.hbm, 141, rfl⟩
abbrev main_call0_call0_call0_v78 : Ref sig .tc := ⟨.hbm, 142, rfl⟩
abbrev main_call0_call0_call0_v79 : Ref sig .tc := ⟨.hbm, 143, rfl⟩
abbrev main_call0_call0_call0_v80 : Ref sig .tc := ⟨.hbm, 144, rfl⟩
abbrev main_call0_call0_call0_v81 : Ref sig .tc := ⟨.hbm, 145, rfl⟩
abbrev main_call0_call0_call0_c_20 : Ref sig .tc := ⟨.hbm, 146, rfl⟩
abbrev main_call0_call0_call0_v82 : Ref sig .tc := ⟨.hbm, 147, rfl⟩
abbrev main_call0_call0_call0_v83 : Ref sig .tc := ⟨.hbm, 148, rfl⟩
abbrev main_call0_call0_call0_c_21 : Ref sig .tc := ⟨.hbm, 149, rfl⟩
abbrev main_call0_call0_call0_v84 : Ref sig .tc := ⟨.hbm, 150, rfl⟩
abbrev main_call0_call0_call0_v85 : Ref sig .tc := ⟨.hbm, 151, rfl⟩
abbrev main_call0_call0_call0_v86 : Ref sig .tc := ⟨.hbm, 152, rfl⟩
abbrev main_call0_call0_call0_v87 : Ref sig .tc := ⟨.hbm, 153, rfl⟩
abbrev main_call0_call0_call0_v88 : Ref sig .tc := ⟨.hbm, 154, rfl⟩
abbrev main_call0_call0_call0_c_22 : Ref sig .tc := ⟨.hbm, 155, rfl⟩
abbrev main_call0_call0_call0_v89 : Ref sig .tc := ⟨.hbm, 156, rfl⟩
abbrev main_call0_call0_call0_v90 : Ref sig .tc := ⟨.hbm, 157, rfl⟩
abbrev main_call0_call0_call0_c_23 : Ref sig .tc := ⟨.hbm, 158, rfl⟩
abbrev main_call0_call0_call0_v91 : Ref sig .tc := ⟨.hbm, 159, rfl⟩
abbrev main_call0_call0_call0_v92 : Ref sig .tc := ⟨.hbm, 160, rfl⟩
abbrev main_call0_call0_call0_v93 : Ref sig .tc := ⟨.hbm, 161, rfl⟩
abbrev main_call0_call0_call0_v94 : Ref sig .tc := ⟨.hbm, 162, rfl⟩
abbrev main_call0_call0_call0_v95 : Ref sig .tc := ⟨.hbm, 163, rfl⟩
abbrev main_call0_call0_call0_c_24 : Ref sig .tc := ⟨.hbm, 164, rfl⟩
abbrev main_call0_call0_call0_v96 : Ref sig .tc := ⟨.hbm, 165, rfl⟩
abbrev main_call0_call0_call0_v97 : Ref sig .tc := ⟨.hbm, 166, rfl⟩
abbrev main_call0_call0_call0_c_25 : Ref sig .tc := ⟨.hbm, 167, rfl⟩
abbrev main_call0_call0_call0_v98 : Ref sig .tc := ⟨.hbm, 168, rfl⟩
abbrev main_call0_call0_call0_v99 : Ref sig .tc := ⟨.hbm, 169, rfl⟩
abbrev main_call0_call0_call0_v100 : Ref sig .tc := ⟨.hbm, 170, rfl⟩
abbrev main_call0_call0_call0_v101 : Ref sig .tc := ⟨.hbm, 171, rfl⟩
abbrev main_call0_call0_call0_v102 : Ref sig .tc := ⟨.hbm, 172, rfl⟩
abbrev main_call0_call0_call0_v103 : Ref sig .tc := ⟨.hbm, 173, rfl⟩
abbrev main_call0_call0_call0_v104 : Ref sig .tc := ⟨.hbm, 174, rfl⟩
abbrev main_call0_call0_call0_v105 : Ref sig .tc := ⟨.hbm, 175, rfl⟩
abbrev main_call0_call0_call0_c_26 : Ref sig .tc := ⟨.hbm, 176, rfl⟩
abbrev main_call0_call0_call0_v106 : Ref sig .tc := ⟨.hbm, 177, rfl⟩
abbrev main_call0_call0_call0_v107 : Ref sig .tc := ⟨.hbm, 178, rfl⟩
abbrev main_call0_call0_call0_v108 : Ref sig .tc := ⟨.hbm, 179, rfl⟩
abbrev main_call0_call0_call0_c_27 : Ref sig .tc := ⟨.hbm, 180, rfl⟩
abbrev main_call0_call0_call0_v109 : Ref sig .tc := ⟨.hbm, 181, rfl⟩
abbrev main_call0_call0_call0_v110 : Ref sig .tc := ⟨.hbm, 182, rfl⟩
abbrev main_call0_call0_call0_c_28 : Ref sig .tc := ⟨.hbm, 183, rfl⟩
abbrev main_call0_call0_call0_v111 : Ref sig .tc := ⟨.hbm, 184, rfl⟩
abbrev main_call0_call0_call0_v112 : Ref sig .tc := ⟨.hbm, 185, rfl⟩
abbrev main_call0_call0_call0_v113 : Ref sig .tc := ⟨.hbm, 186, rfl⟩
abbrev main_call0_call0_call0_v114 : Ref sig .tc := ⟨.hbm, 187, rfl⟩
abbrev main_call0_call0_call0_v115 : Ref sig .tc := ⟨.hbm, 188, rfl⟩
abbrev main_call0_call0_call0_c_29 : Ref sig .tc := ⟨.hbm, 189, rfl⟩
abbrev main_call0_call0_call0_v116 : Ref sig .tc := ⟨.hbm, 190, rfl⟩
abbrev main_call0_call0_call0_v117 : Ref sig .tc := ⟨.hbm, 191, rfl⟩
abbrev main_call0_call0_call0_c_30 : Ref sig .tc := ⟨.hbm, 192, rfl⟩
abbrev main_call0_call0_call0_v118 : Ref sig .tc := ⟨.hbm, 193, rfl⟩
abbrev main_call0_call0_call0_v119 : Ref sig .tc := ⟨.hbm, 194, rfl⟩
abbrev main_call0_call0_call0_v120 : Ref sig .tc := ⟨.hbm, 195, rfl⟩
abbrev main_call0_call0_call0_v121 : Ref sig .tc := ⟨.hbm, 196, rfl⟩
abbrev main_call0_call0_call0_v122 : Ref sig .tc := ⟨.hbm, 197, rfl⟩
abbrev main_call0_call0_call0_c_31 : Ref sig .tc := ⟨.hbm, 198, rfl⟩
abbrev main_call0_call0_call0_v123 : Ref sig .tc := ⟨.hbm, 199, rfl⟩
abbrev main_call0_call0_call0_v124 : Ref sig .tc := ⟨.hbm, 200, rfl⟩
abbrev main_call0_call0_call0_c_32 : Ref sig .tc := ⟨.hbm, 201, rfl⟩
abbrev main_call0_call0_call0_v125 : Ref sig .tc := ⟨.hbm, 202, rfl⟩
abbrev main_call0_call0_call0_v126 : Ref sig .tc := ⟨.hbm, 203, rfl⟩
abbrev main_call0_call0_call0_v127 : Ref sig .tc := ⟨.hbm, 204, rfl⟩
abbrev main_call0_call0_call0_v128 : Ref sig .tc := ⟨.hbm, 205, rfl⟩
abbrev main_call0_call0_call0_v129 : Ref sig .tc := ⟨.hbm, 206, rfl⟩
abbrev main_call0_call0_call0_c_33 : Ref sig .tc := ⟨.hbm, 207, rfl⟩
abbrev main_call0_call0_call0_v130 : Ref sig .tc := ⟨.hbm, 208, rfl⟩
abbrev main_call0_call0_call0_v131 : Ref sig .tc := ⟨.hbm, 209, rfl⟩
abbrev main_call0_call0_call0_c_34 : Ref sig .tc := ⟨.hbm, 210, rfl⟩
abbrev main_call0_call0_call0_v132 : Ref sig .tc := ⟨.hbm, 211, rfl⟩
abbrev main_call0_call0_call0_v133 : Ref sig .tc := ⟨.hbm, 212, rfl⟩
abbrev main_call0_call0_call0_v134 : Ref sig .tc := ⟨.hbm, 213, rfl⟩
abbrev main_call0_call0_call0_v135 : Ref sig .tc := ⟨.hbm, 214, rfl⟩
abbrev main_call0_call0_call0_v136 : Ref sig .tc := ⟨.hbm, 215, rfl⟩
abbrev main_call0_call0_call0_v137 : Ref sig .tc := ⟨.hbm, 216, rfl⟩
abbrev main_call0_call0_call0_v138 : Ref sig .tc := ⟨.hbm, 217, rfl⟩
abbrev main_call0_call0_call0_v139 : Ref sig .tc := ⟨.hbm, 218, rfl⟩
abbrev main_call0_call0_call0_c_35 : Ref sig .tc := ⟨.hbm, 219, rfl⟩
abbrev main_call0_call0_call0_v140 : Ref sig .tc := ⟨.hbm, 220, rfl⟩
abbrev main_call0_call0_call0_v141 : Ref sig .tc := ⟨.hbm, 221, rfl⟩
abbrev main_call0_call0_call0_v142 : Ref sig .tc := ⟨.hbm, 222, rfl⟩
abbrev main_call0_call0_call0_c_36 : Ref sig .tc := ⟨.hbm, 223, rfl⟩
abbrev main_call0_call0_call0_v143 : Ref sig .tc := ⟨.hbm, 224, rfl⟩
abbrev main_call0_call0_call0_v144 : Ref sig .tc := ⟨.hbm, 225, rfl⟩
abbrev main_call0_call0_call0_c_37 : Ref sig .tc := ⟨.hbm, 226, rfl⟩
abbrev main_call0_call0_call0_v145 : Ref sig .tc := ⟨.hbm, 227, rfl⟩
abbrev main_call0_call0_call0_v146 : Ref sig .tc := ⟨.hbm, 228, rfl⟩
abbrev main_call0_call0_call0_v147 : Ref sig .tc := ⟨.hbm, 229, rfl⟩
abbrev main_call0_call0_call0_v148 : Ref sig .tc := ⟨.hbm, 230, rfl⟩
abbrev main_call0_call0_call0_v149 : Ref sig .tc := ⟨.hbm, 231, rfl⟩
abbrev main_call0_call0_call0_c_38 : Ref sig .tc := ⟨.hbm, 232, rfl⟩
abbrev main_call0_call0_call0_v150 : Ref sig .tc := ⟨.hbm, 233, rfl⟩
abbrev main_call0_call0_call0_v151 : Ref sig .tc := ⟨.hbm, 234, rfl⟩
abbrev main_call0_call0_call0_c_39 : Ref sig .tc := ⟨.hbm, 235, rfl⟩
abbrev main_call0_call0_call0_v152 : Ref sig .tc := ⟨.hbm, 236, rfl⟩
abbrev main_call0_call0_call0_v153 : Ref sig .tc := ⟨.hbm, 237, rfl⟩
abbrev main_call0_call0_call0_v154 : Ref sig .tc := ⟨.hbm, 238, rfl⟩
abbrev main_call0_call0_call0_v155 : Ref sig .tc := ⟨.hbm, 239, rfl⟩
abbrev main_call0_call0_call0_v156 : Ref sig .tc := ⟨.hbm, 240, rfl⟩
abbrev main_call0_call0_call0_c_40 : Ref sig .tc := ⟨.hbm, 241, rfl⟩
abbrev main_call0_call0_call0_v157 : Ref sig .tc := ⟨.hbm, 242, rfl⟩
abbrev main_call0_call0_call0_v158 : Ref sig .tc := ⟨.hbm, 243, rfl⟩
abbrev main_call0_call0_call0_c_41 : Ref sig .tc := ⟨.hbm, 244, rfl⟩
abbrev main_call0_call0_call0_v159 : Ref sig .tc := ⟨.hbm, 245, rfl⟩
abbrev main_call0_call0_call0_v160 : Ref sig .tc := ⟨.hbm, 246, rfl⟩
abbrev main_call0_call0_call0_v161 : Ref sig .tc := ⟨.hbm, 247, rfl⟩
abbrev main_call0_call0_call0_v162 : Ref sig .tc := ⟨.hbm, 248, rfl⟩
abbrev main_call0_call0_call0_v163 : Ref sig .tc := ⟨.hbm, 249, rfl⟩
abbrev main_call0_call0_call0_c_42 : Ref sig .tc := ⟨.hbm, 250, rfl⟩
abbrev main_call0_call0_call0_v164 : Ref sig .tc := ⟨.hbm, 251, rfl⟩
abbrev main_call0_call0_call0_v165 : Ref sig .tc := ⟨.hbm, 252, rfl⟩
abbrev main_call0_call0_call0_c_43 : Ref sig .tc := ⟨.hbm, 253, rfl⟩
abbrev main_call0_call0_call0_v166 : Ref sig .tc := ⟨.hbm, 254, rfl⟩
abbrev main_call0_call0_call0_v167 : Ref sig .tc := ⟨.hbm, 255, rfl⟩
abbrev main_call0_call0_call0_v168 : Ref sig .tc := ⟨.hbm, 256, rfl⟩
abbrev main_call0_call0_call0_v169 : Ref sig .tc := ⟨.hbm, 257, rfl⟩
abbrev main_call0_call0_call0_v170 : Ref sig .tc := ⟨.hbm, 258, rfl⟩
abbrev main_call0_call0_v23_0 : Ref sig .tc := ⟨.hbm, 259, rfl⟩
abbrev main_call0_call0_call0_v172 : Ref sig .tc := ⟨.hbm, 260, rfl⟩
abbrev main_call0_call0_call0_v173 : Ref sig .tc := ⟨.hbm, 261, rfl⟩
abbrev main_call0_call0_call0_c_44 : Ref sig .tc := ⟨.hbm, 262, rfl⟩
abbrev main_call0_call0_call0_v174 : Ref sig .tc := ⟨.hbm, 263, rfl⟩
abbrev main_call0_call0_v23_1 : Ref sig .tc := ⟨.hbm, 264, rfl⟩
abbrev main_call0_call0_v24 : Ref sig .tc := ⟨.hbm, 265, rfl⟩
abbrev main_call0_call0_c_3 : Ref sig .tc := ⟨.hbm, 266, rfl⟩
abbrev main_call0_call0_v25 : Ref sig .tc := ⟨.hbm, 267, rfl⟩
abbrev main_call0_call0_v26 : Ref sig .tc := ⟨.hbm, 268, rfl⟩
abbrev main_call0_call0_c_4 : Ref sig .tc := ⟨.hbm, 269, rfl⟩
abbrev main_call0_call0_v27 : Ref sig .tc := ⟨.hbm, 270, rfl⟩
abbrev main_call0_call0_v28 : Ref sig .tc := ⟨.hbm, 271, rfl⟩
abbrev main_call0_call0_v29 : Ref sig .tc := ⟨.hbm, 272, rfl⟩
abbrev main_call0_call0_cst : Ref sig .tc := ⟨.hbm, 273, rfl⟩
abbrev main_call0_call0_v30 : Ref sig .tc := ⟨.hbm, 274, rfl⟩
abbrev main_call0_call0_v31 : Ref sig .tc := ⟨.hbm, 275, rfl⟩
abbrev main_call0_call0_v32 : Ref sig .tc := ⟨.hbm, 276, rfl⟩
abbrev main_call0_call0_v33 : Ref sig .tc := ⟨.hbm, 277, rfl⟩
abbrev main_call0_call0_v34 : Ref sig .tc := ⟨.hbm, 278, rfl⟩
abbrev main_call0_call0_v35 : Ref sig .tc := ⟨.hbm, 279, rfl⟩
abbrev main_call0_call0_v36 : Ref sig .tc := ⟨.hbm, 280, rfl⟩
abbrev main_call0_call0_v37 : Ref sig .tc := ⟨.hbm, 281, rfl⟩
abbrev main_call0_v10 : Ref sig .tc := ⟨.hbm, 282, rfl⟩
abbrev main_call0_v11 : Ref sig .tc := ⟨.hbm, 283, rfl⟩
abbrev main_call0_v12 : Ref sig .tc := ⟨.hbm, 284, rfl⟩
abbrev main_call0_v13 : Ref sig .tc := ⟨.hbm, 285, rfl⟩
abbrev main_call0_v14 : Ref sig .tc := ⟨.hbm, 286, rfl⟩
abbrev main_call0_v15 : Ref sig .tc := ⟨.hbm, 287, rfl⟩
abbrev main_call0_v16_0 : Ref sig .tc := ⟨.hbm, 288, rfl⟩
abbrev main_call0_v16_1 : Ref sig .tc := ⟨.hbm, 289, rfl⟩
abbrev main_call0_v17 : Ref sig .tc := ⟨.hbm, 290, rfl⟩
abbrev main_call0_v18 : Ref sig .tc := ⟨.hbm, 291, rfl⟩
abbrev main_call0_v19 : Ref sig .tc := ⟨.hbm, 292, rfl⟩
abbrev main_call0_v20 : Ref sig .tc := ⟨.hbm, 293, rfl⟩
abbrev main_call0_v21 : Ref sig .tc := ⟨.hbm, 294, rfl⟩
abbrev main_call0_v22 : Ref sig .tc := ⟨.hbm, 295, rfl⟩
abbrev main_call0_v23 : Ref sig .tc := ⟨.hbm, 296, rfl⟩
abbrev main_v0_0 : Ref sig .tc := ⟨.hbm, 297, rfl⟩
abbrev main_call0_v25 : Ref sig .tc := ⟨.hbm, 298, rfl⟩
abbrev main_v0_1 : Ref sig .tc := ⟨.hbm, 299, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_4 : BitVec 32 := 0#32
  let c512_i32 : BitVec 32 := 512#32
  let v17 : BitVec 32 := Scalar.addi c0_i32_4 c512_i32
  let c1_i32 : BitVec 32 := 1#32
  ⟨c0_i32_4, v17, c1_i32⟩
def k0_mult1 (k0_t1 : Fin k0_t1_loop.trips) : BitVec 32 :=
  let c8_i32 : BitVec 32 := 8#32
  let c0_i32_4 : BitVec 32 := 0#32
  let c1_i32 : BitVec 32 := 1#32
  let arg9 : BitVec 32 := Scf.iv c0_i32_4 c1_i32 k0_t1
  let v46 : BitVec 32 := Scalar.muli c8_i32 arg9
  v46
def k0_mult2 (k0_t1 : Fin k0_t1_loop.trips) : BitVec 32 :=
  let c4088_i32 : BitVec 32 := 4088#32
  let c8_i32_27 : BitVec 32 := 8#32
  let c0_i32_4 : BitVec 32 := 0#32
  let c1_i32 : BitVec 32 := 1#32
  let arg9 : BitVec 32 := Scf.iv c0_i32_4 c1_i32 k0_t1
  let v48 : BitVec 32 := Scalar.muli c8_i32_27 arg9
  let v49 : BitVec 32 := Scalar.subi c4088_i32 v48
  v49
def k0_off1 (k0_t1 : Fin k0_t1_loop.trips) : Fin 2 → Nat :=
  let c8_i32 : BitVec 32 := 8#32
  let c0_i32_4 : BitVec 32 := 0#32
  let c1_i32 : BitVec 32 := 1#32
  let arg9 : BitVec 32 := Scf.iv c0_i32_4 c1_i32 k0_t1
  let v46 : BitVec 32 := Scalar.muli c8_i32 arg9
  let v47 : BitVec 32 := v46
  let v51 : Index := Scalar.indexCast v47
  let c0_28 : Index := 0#32
  ![v51.toNat, 0]
def k0_off2 (k0_t1 : Fin k0_t1_loop.trips) : Fin 2 → Nat :=
  let c4088_i32 : BitVec 32 := 4088#32
  let c8_i32_27 : BitVec 32 := 8#32
  let c0_i32_4 : BitVec 32 := 0#32
  let c1_i32 : BitVec 32 := 1#32
  let arg9 : BitVec 32 := Scf.iv c0_i32_4 c1_i32 k0_t1
  let v48 : BitVec 32 := Scalar.muli c8_i32_27 arg9
  let v49 : BitVec 32 := Scalar.subi c4088_i32 v48
  let v50 : BitVec 32 := v49
  let v54 : Index := Scalar.indexCast v50
  let c0_29 : Index := 0#32
  ![v54.toNat, 0]
def k0_cond1 (k0_t1 : Fin k0_t1_loop.trips) : BitVec 1 :=
  let c0_i32_4 : BitVec 32 := 0#32
  let c1_i32 : BitVec 32 := 1#32
  let arg9 : BitVec 32 := Scf.iv c0_i32_4 c1_i32 k0_t1
  let c256_i32 : BitVec 32 := 256#32
  let v225 : BitVec 1 := Scalar.cmpi .slt arg9 c256_i32
  let v226 : BitVec 32 := Scalar.extui v225
  let c0_i32_38 : BitVec 32 := 0#32
  let v227 : BitVec 1 := Scalar.cmpi .ne v226 c0_i32_38
  v227

def k0_off3 (k0_t1 : Fin k0_t1_loop.trips) (c0_i32_41 : BitVec 32) : Fin 3 → Nat :=
  let c8_i32 : BitVec 32 := 8#32
  let c0_i32_4 : BitVec 32 := 0#32
  let c1_i32 : BitVec 32 := 1#32
  let arg9 : BitVec 32 := Scf.iv c0_i32_4 c1_i32 k0_t1
  let v46 : BitVec 32 := Scalar.muli c8_i32 arg9
  let v47 : BitVec 32 := v46
  let v232 : BitVec 32 := Scalar.addi v47 c0_i32_41
  let v233 : Index := Scalar.indexCast v232
  let c0_42 : Index := 0#32
  let c0_43 : Index := 0#32
  ![v233.toNat, 0, 0]
def k0_cond2 (k0_t1 : Fin k0_t1_loop.trips) : BitVec 1 :=
  let c0_i32_4 : BitVec 32 := 0#32
  let c1_i32 : BitVec 32 := 1#32
  let arg9 : BitVec 32 := Scf.iv c0_i32_4 c1_i32 k0_t1
  let c256_i32_39 : BitVec 32 := 256#32
  let v228 : BitVec 1 := Scalar.cmpi .sge arg9 c256_i32_39
  let v229 : BitVec 32 := Scalar.extui v228
  let c0_i32_40 : BitVec 32 := 0#32
  let v230 : BitVec 1 := Scalar.cmpi .ne v229 c0_i32_40
  v230

def k0_off4 (k0_t1 : Fin k0_t1_loop.trips) (c7_i32 : BitVec 32) : Fin 3 → Nat :=
  let c4088_i32 : BitVec 32 := 4088#32
  let c8_i32_27 : BitVec 32 := 8#32
  let c0_i32_4 : BitVec 32 := 0#32
  let c1_i32 : BitVec 32 := 1#32
  let arg9 : BitVec 32 := Scf.iv c0_i32_4 c1_i32 k0_t1
  let v48 : BitVec 32 := Scalar.muli c8_i32_27 arg9
  let v49 : BitVec 32 := Scalar.subi c4088_i32 v48
  let v50 : BitVec 32 := v49
  let v231 : BitVec 32 := Scalar.addi v50 c7_i32
  let v232 : Index := Scalar.indexCast v231
  let c0_41 : Index := 0#32
  let c0_42 : Index := 0#32
  ![v232.toNat, 0, 0]
def k0_off5 (k0_t1 : Fin k0_t1_loop.trips) : Fin 3 → Nat :=
  let c0_i32_4 : BitVec 32 := 0#32
  let c1_i32 : BitVec 32 := 1#32
  let arg9 : BitVec 32 := Scf.iv c0_i32_4 c1_i32 k0_t1
  let c256_i32_75 : BitVec 32 := 256#32
  let v370 : BitVec 32 := Scalar.subi arg9 c256_i32_75
  let v371 : Index := Scalar.indexCast v370
  let c0_76 : Index := 0#32
  let c0_77 : Index := 0#32
  ![v371.toNat, 0, 0]
def k0_off6 (k0_t1 : Fin k0_t1_loop.trips) : Fin 3 → Nat :=
  let c511_i32 : BitVec 32 := 511#32
  let c0_i32_4 : BitVec 32 := 0#32
  let c1_i32 : BitVec 32 := 1#32
  let arg9 : BitVec 32 := Scf.iv c0_i32_4 c1_i32 k0_t1
  let v376 : BitVec 32 := Scalar.subi c511_i32 arg9
  let v377 : Index := Scalar.indexCast v376
  let c0_78 : Index := 0#32
  let c0_79 : Index := 0#32
  ![v377.toNat, 0, 0]
@[reducible] def k0_t2_loop : Scf.Loop 32 :=
  let c0_i32_24 : BitVec 32 := 0#32
  let c32_i32_25 : BitVec 32 := 32#32
  let v45 : BitVec 32 := Scalar.addi c0_i32_24 c32_i32_25
  let c1_i32_26 : BitVec 32 := 1#32
  ⟨c0_i32_24, v45, c1_i32_26⟩
abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "neg" => some ⊥
  | _ => none
-- ==== ReferenceIdeal.lean ====
abbrev S32x4096x2 : Shape := ⟨3, ![32, 4096, 2]⟩
abbrev S32x2x4096 : Shape := ⟨3, ![32, 2, 4096]⟩
abbrev S64x4096 : Shape := ⟨2, ![64, 4096]⟩
abbrev S4096x64 : Shape := ⟨2, ![4096, 64]⟩
abbrev S1x4096x64 : Shape := ⟨3, ![1, 4096, 64]⟩
abbrev S2x4096x64 : Shape := ⟨3, ![2, 4096, 64]⟩
abbrev S_ : Shape := ⟨0, ![]⟩
abbrev S64x33 : Shape := ⟨2, ![64, 33]⟩
abbrev S1 : Shape := ⟨1, ![1]⟩
abbrev S64 : Shape := ⟨1, ![64]⟩
abbrev S2x64x33 : Shape := ⟨3, ![2, 64, 33]⟩
abbrev S4096x2x64 : Shape := ⟨3, ![4096, 2, 64]⟩
abbrev S4096x2x64x33 : Shape := ⟨4, ![4096, 2, 64, 33]⟩
abbrev S1x2x64 : Shape := ⟨3, ![1, 2, 64]⟩
abbrev S2x64 : Shape := ⟨2, ![2, 64]⟩
abbrev S64x1 : Shape := ⟨2, ![64, 1]⟩
abbrev S2x64x32 : Shape := ⟨3, ![2, 64, 32]⟩
abbrev S2x64x1 : Shape := ⟨3, ![2, 64, 1]⟩
abbrev S1x2x64x33 : Shape := ⟨4, ![1, 2, 64, 33]⟩
abbrev S1x64x33 : Shape := ⟨3, ![1, 64, 33]⟩
abbrev S2x1x64x33 : Shape := ⟨4, ![2, 1, 64, 33]⟩
abbrev S2x4096x64x33 : Shape := ⟨4, ![2, 4096, 64, 33]⟩
abbrev S2x4097x64x33 : Shape := ⟨4, ![2, 4097, 64, 33]⟩
abbrev S1x4097x64x33 : Shape := ⟨4, ![1, 4097, 64, 33]⟩
abbrev S4097x64x33 : Shape := ⟨3, ![4097, 64, 33]⟩
abbrev S4096x64x32 : Shape := ⟨3, ![4096, 64, 32]⟩
abbrev S4096x64x1 : Shape := ⟨3, ![4096, 64, 1]⟩
abbrev S1x64 : Shape := ⟨2, ![1, 64]⟩
abbrev S2 : Shape := ⟨1, ![2]⟩
abbrev S1x1x1 : Shape := ⟨3, ![1, 1, 1]⟩
abbrev S1x64x4096 : Shape := ⟨3, ![1, 64, 4096]⟩
abbrev S1x64x32 : Shape := ⟨3, ![1, 64, 32]⟩
abbrev S1x64x1 : Shape := ⟨3, ![1, 64, 1]⟩
abbrev S1x64x32x1 : Shape := ⟨4, ![1, 64, 32, 1]⟩
abbrev S1x64x32x3 : Shape := ⟨4, ![1, 64, 32, 3]⟩
abbrev S1x32x2x4096 : Shape := ⟨4, ![1, 32, 2, 4096]⟩
abbrev S1x32x4096x2 : Shape := ⟨4, ![1, 32, 4096, 2]⟩

abbrev nBuf : Space → Nat
  | .hbm => 433
  | .vmem => 0
  | .smem => 0
  | _ => 0

abbrev hbmTy0_0 (i : Nat) : BufTy := match i % 128 with
  | 0 => ⟨S32x4096x2, .f32⟩
  | 1 => ⟨S32x2x4096, .f32⟩
  | 2 => ⟨S64x4096, .f32⟩
  | 3 => ⟨S4096x64, .f32⟩
  | 4 => ⟨S64x4096, .f32⟩
  | 5 => ⟨S4096x64, .f32⟩
  | 6 => ⟨S1x4096x64, .f32⟩
  | 7 => ⟨S1x4096x64, .f32⟩
  | 8 => ⟨S2x4096x64, .f32⟩
  | 9 => ⟨S_, .f32⟩
  | 10 => ⟨S64x33, .f32⟩
  | 11 => ⟨S_, .i32⟩
  | 12 => ⟨S1, .i32⟩
  | 13 => ⟨S_, .f32⟩
  | 14 => ⟨S64, .f32⟩
  | 15 => ⟨S64x33, .f32⟩
  | 16 => ⟨S2x64x33, .f32⟩
  | 17 => ⟨S4096x2x64, .f32⟩
  | 18 => ⟨S_, .f32⟩
  | 19 => ⟨S4096x2x64x33, .f32⟩
  | 20 => ⟨S_, .i32⟩
  | 21 => ⟨S4096x2x64, .f32⟩
  | 22 => ⟨S_, .i32⟩
  | 23 => ⟨S2x64x33, .f32⟩
  | 24 => ⟨S4096x2x64x33, .f32⟩
  | 25 => ⟨S_, .i32⟩
  | 26 => ⟨S_, .i1⟩
  | 27 => ⟨S_, .i32⟩
  | 28 => ⟨S_, .i32⟩
  | 29 => ⟨S1x2x64, .f32⟩
  | 30 => ⟨S2x64, .f32⟩
  | 31 => ⟨S_, .f32⟩
  | 32 => ⟨S64x1, .f32⟩
  | 33 => ⟨S2x64x32, .f32⟩
  | 34 => ⟨S2x64x1, .f32⟩
  | 35 => ⟨S2x64x32, .f32⟩
  | 36 => ⟨S2x64x32, .f32⟩
  | 37 => ⟨S2x64x32, .f32⟩
  | 38 => ⟨S64x1, .f32⟩
  | 39 => ⟨S2x64x1, .f32⟩
  | 40 => ⟨S2x64x33, .f32⟩
  | 41 => ⟨S2x64x33, .f32⟩
  | 42 => ⟨S2x64x33, .f32⟩
  | 43 => ⟨S2x64x33, .f32⟩
  | 44 => ⟨S2x64x33, .i1⟩
  | 45 => ⟨S2x64x33, .f32⟩
  | 46 => ⟨S2x64x33, .f32⟩
  | 47 => ⟨S2x64x33, .f32⟩
  | 48 => ⟨S2x64x33, .f32⟩
  | 49 => ⟨S2x64x33, .f32⟩
  | 50 => ⟨S2x64x33, .f32⟩
  | 51 => ⟨S2x64x33, .f32⟩
  | 52 => ⟨S1x2x64x33, .f32⟩
  | 53 => ⟨S_, .i32⟩
  | 54 => ⟨S_, .i32⟩
  | 55 => ⟨S_, .i32⟩
  | 56 => ⟨S4096x2x64x33, .f32⟩
  | 57 => ⟨S_, .i32⟩
  | 58 => ⟨S_, .i32⟩
  | 59 => ⟨S1x64x33, .f32⟩
  | 60 => ⟨S1x64x33, .f32⟩
  | 61 => ⟨S2x1x64x33, .f32⟩
  | 62 => ⟨S2x4096x64x33, .f32⟩
  | 63 => ⟨S2x4097x64x33, .f32⟩
  | 64 => ⟨S1x4097x64x33, .f32⟩
  | 65 => ⟨S4097x64x33, .f32⟩
  | 66 => ⟨S1x4097x64x33, .f32⟩
  | 67 => ⟨S4097x64x33, .f32⟩
  | 68 => ⟨S4096x64x32, .f32⟩
  | 69 => ⟨S4097x64x33, .f32⟩
  | 70 => ⟨S4096x64x32, .f32⟩
  | 71 => ⟨S4096x64x32, .f32⟩
  | 72 => ⟨S4096x64x32, .f32⟩
  | 73 => ⟨S_, .f32⟩
  | 74 => ⟨S4096x64, .f32⟩
  | 75 => ⟨S4096x64, .f32⟩
  | 76 => ⟨S_, .f32⟩
  | 77 => ⟨S4096x64, .f32⟩
  | 78 => ⟨S4096x64, .i1⟩
  | 79 => ⟨S_, .f32⟩
  | 80 => ⟨S_, .f32⟩
  | 81 => ⟨S4096x64, .f32⟩
  | 82 => ⟨S4096x64, .f32⟩
  | 83 => ⟨S4096x64x1, .f32⟩
  | 84 => ⟨S4096x64x32, .f32⟩
  | 85 => ⟨S4096x64x32, .f32⟩
  | 86 => ⟨S4096x64x32, .f32⟩
  | 87 => ⟨S_, .f32⟩
  | 88 => ⟨S4096x64, .f32⟩
  | 89 => ⟨S4096x64, .f32⟩
  | 90 => ⟨S4096x64, .f32⟩
  | 91 => ⟨S1x64x33, .f32⟩
  | 92 => ⟨S64x33, .f32⟩
  | 93 => ⟨S64x1, .f32⟩
  | 94 => ⟨S64, .f32⟩
  | 95 => ⟨S4096x64, .f32⟩
  | 96 => ⟨S4096x64, .f32⟩
  | 97 => ⟨S1x64, .f32⟩
  | 98 => ⟨S4096x64, .f32⟩
  | 99 => ⟨S4096x64, .f32⟩
  | 100 => ⟨S4096x64, .f32⟩
  | 101 => ⟨S64x4096, .f32⟩
  | 102 => ⟨S_, .i32⟩
  | 103 => ⟨S_, .i32⟩
  | 104 => ⟨S_, .i32⟩
  | 105 => ⟨S_, .i32⟩
  | 106 => ⟨S1, .i32⟩
  | 107 => ⟨S_, .i32⟩
  | 108 => ⟨S_, .i32⟩
  | 109 => ⟨S_, .i32⟩
  | 110 => ⟨S1, .i32⟩
  | 111 => ⟨S2, .i32⟩
  | 112 => ⟨S_, .f32⟩
  | 113 => ⟨S_, .f32⟩
  | 114 => ⟨S_, .f32⟩
  | 115 => ⟨S_, .f32⟩
  | 116 => ⟨S1x1x1, .f32⟩
  | 117 => ⟨S1x1x1, .f32⟩
  | 118 => ⟨S1, .i32⟩
  | 119 => ⟨S_, .i32⟩
  | 120 => ⟨S1, .i32⟩
  | 121 => ⟨S_, .i32⟩
  | 122 => ⟨S1x64x4096, .i64⟩
  | 123 => ⟨S1x64x4096, .i64⟩
  | 124 => ⟨S1x64x4096, .i64⟩
  | 125 => ⟨S_, .i64⟩
  | 126 => ⟨S1x64x4096, .i64⟩
  | 127 => ⟨S1x64x4096, .i64⟩
  | _ => ⟨S32x4096x2, .f32⟩

abbrev hbmTy0_1 (i : Nat) : BufTy := match i % 128 with
  | 0 => ⟨S_, .i64⟩
  | 1 => ⟨S1x64x4096, .i64⟩
  | 2 => ⟨S1x64x4096, .i64⟩
  | 3 => ⟨S_, .i64⟩
  | 4 => ⟨S1x64x4096, .i64⟩
  | 5 => ⟨S1x64x4096, .i64⟩
  | 6 => ⟨S1x64x4096, .i64⟩
  | 7 => ⟨S1x64x4096, .i64⟩
  | 8 => ⟨S_, .i64⟩
  | 9 => ⟨S1x64x4096, .i64⟩
  | 10 => ⟨S1x64x4096, .i64⟩
  | 11 => ⟨S1x64x4096, .i32⟩
  | 12 => ⟨S1x64x4096, .i32⟩
  | 13 => ⟨S_, .i32⟩
  | 14 => ⟨S_, .i32⟩
  | 15 => ⟨S_, .i32⟩
  | 16 => ⟨S1x64x4096, .i32⟩
  | 17 => ⟨S1x64x4096, .i32⟩
  | 18 => ⟨S1x64x4096, .i32⟩
  | 19 => ⟨S1x64x4096, .i32⟩
  | 20 => ⟨S1x64x4096, .i32⟩
  | 21 => ⟨S_, .i32⟩
  | 22 => ⟨S1x64x4096, .i32⟩
  | 23 => ⟨S1x64x4096, .i32⟩
  | 24 => ⟨S_, .i32⟩
  | 25 => ⟨S1x64x4096, .i32⟩
  | 26 => ⟨S1x64x4096, .i32⟩
  | 27 => ⟨S1x64x4096, .i32⟩
  | 28 => ⟨S1x64x4096, .i32⟩
  | 29 => ⟨S1x64x4096, .i32⟩
  | 30 => ⟨S_, .i32⟩
  | 31 => ⟨S1x64x4096, .i32⟩
  | 32 => ⟨S1x64x4096, .i32⟩
  | 33 => ⟨S_, .i32⟩
  | 34 => ⟨S1x64x4096, .i32⟩
  | 35 => ⟨S1x64x4096, .i32⟩
  | 36 => ⟨S1x64x4096, .i32⟩
  | 37 => ⟨S1x64x4096, .i32⟩
  | 38 => ⟨S1x64x4096, .i32⟩
  | 39 => ⟨S_, .i32⟩
  | 40 => ⟨S1x64x4096, .i32⟩
  | 41 => ⟨S1x64x4096, .i32⟩
  | 42 => ⟨S_, .i32⟩
  | 43 => ⟨S1x64x4096, .i32⟩
  | 44 => ⟨S1x64x4096, .i32⟩
  | 45 => ⟨S1x64x4096, .i32⟩
  | 46 => ⟨S1x64x4096, .i32⟩
  | 47 => ⟨S1x64x4096, .i32⟩
  | 48 => ⟨S_, .i32⟩
  | 49 => ⟨S1x64x4096, .i32⟩
  | 50 => ⟨S1x64x4096, .i32⟩
  | 51 => ⟨S_, .i32⟩
  | 52 => ⟨S1x64x4096, .i32⟩
  | 53 => ⟨S1x64x4096, .i32⟩
  | 54 => ⟨S1x64x4096, .i32⟩
  | 55 => ⟨S1x64x4096, .i32⟩
  | 56 => ⟨S1x64x4096, .i32⟩
  | 57 => ⟨S1x64x4096, .i32⟩
  | 58 => ⟨S1x64x4096, .i32⟩
  | 59 => ⟨S1x64x4096, .i32⟩
  | 60 => ⟨S_, .i32⟩
  | 61 => ⟨S1x64x4096, .i32⟩
  | 62 => ⟨S1x64x4096, .i32⟩
  | 63 => ⟨S1x64x4096, .i32⟩
  | 64 => ⟨S_, .i32⟩
  | 65 => ⟨S1x64x4096, .i32⟩
  | 66 => ⟨S1x64x4096, .i32⟩
  | 67 => ⟨S_, .i32⟩
  | 68 => ⟨S1x64x4096, .i32⟩
  | 69 => ⟨S1x64x4096, .i32⟩
  | 70 => ⟨S1x64x4096, .i32⟩
  | 71 => ⟨S1x64x4096, .i32⟩
  | 72 => ⟨S1x64x4096, .i32⟩
  | 73 => ⟨S_, .i32⟩
  | 74 => ⟨S1x64x4096, .i32⟩
  | 75 => ⟨S1x64x4096, .i32⟩
  | 76 => ⟨S_, .i32⟩
  | 77 => ⟨S1x64x4096, .i32⟩
  | 78 => ⟨S1x64x4096, .i32⟩
  | 79 => ⟨S1x64x4096, .i32⟩
  | 80 => ⟨S1x64x4096, .i32⟩
  | 81 => ⟨S1x64x4096, .i32⟩
  | 82 => ⟨S_, .i32⟩
  | 83 => ⟨S1x64x4096, .i32⟩
  | 84 => ⟨S1x64x4096, .i32⟩
  | 85 => ⟨S_, .i32⟩
  | 86 => ⟨S1x64x4096, .i32⟩
  | 87 => ⟨S1x64x4096, .i32⟩
  | 88 => ⟨S1x64x4096, .i32⟩
  | 89 => ⟨S1x64x4096, .i32⟩
  | 90 => ⟨S1x64x4096, .i32⟩
  | 91 => ⟨S_, .i32⟩
  | 92 => ⟨S1x64x4096, .i32⟩
  | 93 => ⟨S1x64x4096, .i32⟩
  | 94 => ⟨S_, .i32⟩
  | 95 => ⟨S1x64x4096, .i32⟩
  | 96 => ⟨S1x64x4096, .i32⟩
  | 97 => ⟨S1x64x4096, .i32⟩
  | 98 => ⟨S1x64x4096, .i32⟩
  | 99 => ⟨S1x64x4096, .i32⟩
  | 100 => ⟨S1x64x4096, .i32⟩
  | 101 => ⟨S1x64x4096, .i32⟩
  | 102 => ⟨S1x64x4096, .i32⟩
  | 103 => ⟨S_, .i32⟩
  | 104 => ⟨S1x64x4096, .i32⟩
  | 105 => ⟨S1x64x4096, .i32⟩
  | 106 => ⟨S1x64x4096, .i32⟩
  | 107 => ⟨S_, .i32⟩
  | 108 => ⟨S1x64x4096, .i32⟩
  | 109 => ⟨S1x64x4096, .i32⟩
  | 110 => ⟨S_, .i32⟩
  | 111 => ⟨S1x64x4096, .i32⟩
  | 112 => ⟨S1x64x4096, .i32⟩
  | 113 => ⟨S1x64x4096, .i32⟩
  | 114 => ⟨S1x64x4096, .i32⟩
  | 115 => ⟨S1x64x4096, .i32⟩
  | 116 => ⟨S_, .i32⟩
  | 117 => ⟨S1x64x4096, .i32⟩
  | 118 => ⟨S1x64x4096, .i32⟩
  | 119 => ⟨S_, .i32⟩
  | 120 => ⟨S1x64x4096, .i32⟩
  | 121 => ⟨S1x64x4096, .i32⟩
  | 122 => ⟨S1x64x4096, .i32⟩
  | 123 => ⟨S1x64x4096, .i32⟩
  | 124 => ⟨S1x64x4096, .i32⟩
  | 125 => ⟨S_, .i32⟩
  | 126 => ⟨S1x64x4096, .i32⟩
  | 127 => ⟨S1x64x4096, .i32⟩
  | _ => ⟨S32x4096x2, .f32⟩

abbrev hbmTy0_2 (i : Nat) : BufTy := match i % 128 with
  | 0 => ⟨S_, .i32⟩
  | 1 => ⟨S1x64x4096, .i32⟩
  | 2 => ⟨S1x64x4096, .i32⟩
  | 3 => ⟨S1x64x4096, .i32⟩
  | 4 => ⟨S1x64x4096, .i32⟩
  | 5 => ⟨S1x64x4096, .i32⟩
  | 6 => ⟨S_, .i32⟩
  | 7 => ⟨S1x64x4096, .i32⟩
  | 8 => ⟨S1x64x4096, .i32⟩
  | 9 => ⟨S_, .i32⟩
  | 10 => ⟨S1x64x4096, .i32⟩
  | 11 => ⟨S1x64x4096, .i32⟩
  | 12 => ⟨S1x64x4096, .i32⟩
  | 13 => ⟨S1x64x4096, .i32⟩
  | 14 => ⟨S1x64x4096, .i32⟩
  | 15 => ⟨S1x64x4096, .i32⟩
  | 16 => ⟨S1x64x4096, .i32⟩
  | 17 => ⟨S1x64x4096, .i32⟩
  | 18 => ⟨S_, .i32⟩
  | 19 => ⟨S1x64x4096, .i32⟩
  | 20 => ⟨S1x64x4096, .i32⟩
  | 21 => ⟨S1x64x4096, .i32⟩
  | 22 => ⟨S_, .i32⟩
  | 23 => ⟨S1x64x4096, .i32⟩
  | 24 => ⟨S1x64x4096, .i32⟩
  | 25 => ⟨S_, .i32⟩
  | 26 => ⟨S1x64x4096, .i32⟩
  | 27 => ⟨S1x64x4096, .i32⟩
  | 28 => ⟨S1x64x4096, .i32⟩
  | 29 => ⟨S1x64x4096, .i32⟩
  | 30 => ⟨S1x64x4096, .i32⟩
  | 31 => ⟨S_, .i32⟩
  | 32 => ⟨S1x64x4096, .i32⟩
  | 33 => ⟨S1x64x4096, .i32⟩
  | 34 => ⟨S_, .i32⟩
  | 35 => ⟨S1x64x4096, .i32⟩
  | 36 => ⟨S1x64x4096, .i32⟩
  | 37 => ⟨S1x64x4096, .i32⟩
  | 38 => ⟨S1x64x4096, .i32⟩
  | 39 => ⟨S1x64x4096, .i32⟩
  | 40 => ⟨S_, .i32⟩
  | 41 => ⟨S1x64x4096, .i32⟩
  | 42 => ⟨S1x64x4096, .i32⟩
  | 43 => ⟨S_, .i32⟩
  | 44 => ⟨S1x64x4096, .i32⟩
  | 45 => ⟨S1x64x4096, .i32⟩
  | 46 => ⟨S1x64x4096, .i32⟩
  | 47 => ⟨S1x64x4096, .i32⟩
  | 48 => ⟨S1x64x4096, .i32⟩
  | 49 => ⟨S_, .i32⟩
  | 50 => ⟨S1x64x4096, .i32⟩
  | 51 => ⟨S1x64x4096, .i32⟩
  | 52 => ⟨S_, .i32⟩
  | 53 => ⟨S1x64x4096, .i32⟩
  | 54 => ⟨S1x64x4096, .i32⟩
  | 55 => ⟨S1x64x4096, .i32⟩
  | 56 => ⟨S1x64x4096, .i32⟩
  | 57 => ⟨S1x64x4096, .i32⟩
  | 58 => ⟨S1x64x4096, .i32⟩
  | 59 => ⟨S1x64x4096, .i32⟩
  | 60 => ⟨S1x64x4096, .i32⟩
  | 61 => ⟨S_, .i32⟩
  | 62 => ⟨S1x64x4096, .i32⟩
  | 63 => ⟨S1x64x4096, .i32⟩
  | 64 => ⟨S1x64x4096, .i32⟩
  | 65 => ⟨S_, .i32⟩
  | 66 => ⟨S1x64x4096, .i32⟩
  | 67 => ⟨S1x64x4096, .i32⟩
  | 68 => ⟨S_, .i32⟩
  | 69 => ⟨S1x64x4096, .i32⟩
  | 70 => ⟨S1x64x4096, .i32⟩
  | 71 => ⟨S1x64x4096, .i32⟩
  | 72 => ⟨S1x64x4096, .i32⟩
  | 73 => ⟨S1x64x4096, .i32⟩
  | 74 => ⟨S_, .i32⟩
  | 75 => ⟨S1x64x4096, .i32⟩
  | 76 => ⟨S1x64x4096, .i32⟩
  | 77 => ⟨S_, .i32⟩
  | 78 => ⟨S1x64x4096, .i32⟩
  | 79 => ⟨S1x64x4096, .i32⟩
  | 80 => ⟨S1x64x4096, .i32⟩
  | 81 => ⟨S1x64x4096, .i32⟩
  | 82 => ⟨S1x64x4096, .i32⟩
  | 83 => ⟨S_, .i32⟩
  | 84 => ⟨S1x64x4096, .i32⟩
  | 85 => ⟨S1x64x4096, .i32⟩
  | 86 => ⟨S_, .i32⟩
  | 87 => ⟨S1x64x4096, .i32⟩
  | 88 => ⟨S1x64x4096, .i32⟩
  | 89 => ⟨S1x64x4096, .i32⟩
  | 90 => ⟨S1x64x4096, .i32⟩
  | 91 => ⟨S1x64x4096, .i32⟩
  | 92 => ⟨S_, .i32⟩
  | 93 => ⟨S1x64x4096, .i32⟩
  | 94 => ⟨S1x64x4096, .i32⟩
  | 95 => ⟨S_, .i32⟩
  | 96 => ⟨S1x64x4096, .i32⟩
  | 97 => ⟨S1x64x4096, .i32⟩
  | 98 => ⟨S1x64x4096, .i32⟩
  | 99 => ⟨S1x64x4096, .i32⟩
  | 100 => ⟨S1x64x4096, .i32⟩
  | 101 => ⟨S1x64x4096, .i32⟩
  | 102 => ⟨S1x64x4096, .i32⟩
  | 103 => ⟨S1x64x4096, .i32⟩
  | 104 => ⟨S_, .i32⟩
  | 105 => ⟨S1x64x4096, .i32⟩
  | 106 => ⟨S1x64x4096, .i32⟩
  | 107 => ⟨S1x64x4096, .i32⟩
  | 108 => ⟨S_, .i32⟩
  | 109 => ⟨S1x64x4096, .i32⟩
  | 110 => ⟨S1x64x4096, .i32⟩
  | 111 => ⟨S_, .i32⟩
  | 112 => ⟨S1x64x4096, .i32⟩
  | 113 => ⟨S1x64x4096, .i32⟩
  | 114 => ⟨S1x64x4096, .f32⟩
  | 115 => ⟨S_, .f32⟩
  | 116 => ⟨S1x64x4096, .f32⟩
  | 117 => ⟨S1x64x4096, .f32⟩
  | 118 => ⟨S1x1x1, .f32⟩
  | 119 => ⟨S1x64x4096, .f32⟩
  | 120 => ⟨S1x64x4096, .f32⟩
  | 121 => ⟨S1x64x4096, .f32⟩
  | 122 => ⟨S1x64x4096, .f32⟩
  | 123 => ⟨S1x64x4096, .f32⟩
  | 124 => ⟨S1x64x4096, .f32⟩
  | 125 => ⟨S1x64x4096, .f32⟩
  | 126 => ⟨S1x64x4096, .f32⟩
  | 127 => ⟨S1x64x4096, .f32⟩
  | _ => ⟨S32x4096x2, .f32⟩

abbrev hbmTy0_3 (i : Nat) : BufTy := match i % 128 with
  | 0 => ⟨S1x64x4096, .f32⟩
  | 1 => ⟨S1x64x4096, .f32⟩
  | 2 => ⟨S1x64x4096, .f32⟩
  | 3 => ⟨S1x64x32, .f32⟩
  | 4 => ⟨S1x64x32, .i32⟩
  | 5 => ⟨S1, .i32⟩
  | 6 => ⟨S1x1x1, .i32⟩
  | 7 => ⟨S64, .i32⟩
  | 8 => ⟨S1x64x1, .i32⟩
  | 9 => ⟨S_, .f32⟩
  | 10 => ⟨S1x64x4096, .f32⟩
  | 11 => ⟨S_, .i32⟩
  | 12 => ⟨S1x1x1, .i32⟩
  | 13 => ⟨S1x1x1, .i1⟩
  | 14 => ⟨S_, .i32⟩
  | 15 => ⟨S1x1x1, .i32⟩
  | 16 => ⟨S1x1x1, .i32⟩
  | 17 => ⟨S1x1x1, .i32⟩
  | 18 => ⟨S_, .i32⟩
  | 19 => ⟨S1x64x1, .i32⟩
  | 20 => ⟨S1x64x1, .i1⟩
  | 21 => ⟨S_, .i32⟩
  | 22 => ⟨S1x64x1, .i32⟩
  | 23 => ⟨S1x64x1, .i32⟩
  | 24 => ⟨S1x64x1, .i32⟩
  | 25 => ⟨S_, .i32⟩
  | 26 => ⟨S1x64x32, .i32⟩
  | 27 => ⟨S1x64x32, .i1⟩
  | 28 => ⟨S_, .i32⟩
  | 29 => ⟨S1x64x32, .i32⟩
  | 30 => ⟨S1x64x32, .i32⟩
  | 31 => ⟨S1x64x32, .i32⟩
  | 32 => ⟨S1x64x32, .i32⟩
  | 33 => ⟨S1x64x32, .i32⟩
  | 34 => ⟨S1x64x32x1, .i32⟩
  | 35 => ⟨S1x64x32x1, .i32⟩
  | 36 => ⟨S1x64x32x1, .i32⟩
  | 37 => ⟨S1x64x32x3, .i32⟩
  | 38 => ⟨S_, .f32⟩
  | 39 => ⟨S1x64x32, .f32⟩
  | 40 => ⟨S1x64x4096, .f32⟩
  | 41 => ⟨S1x64x4096, .f32⟩
  | 42 => ⟨S1x64x4096, .f32⟩
  | 43 => ⟨S1x64x4096, .f32⟩
  | 44 => ⟨S1x64x4096, .f32⟩
  | 45 => ⟨S1x32x2x4096, .f32⟩
  | 46 => ⟨S1x32x4096x2, .f32⟩
  | 47 => ⟨S32x2x4096, .f32⟩
  | 48 => ⟨S32x4096x2, .f32⟩
  | _ => ⟨S32x4096x2, .f32⟩

abbrev hbmTy (i : Nat) : BufTy := match i / 128 with
  | 0 => hbmTy0_0 i
  | 1 => hbmTy0_1 i
  | 2 => hbmTy0_2 i
  | 3 => hbmTy0_3 i
  | _ => ⟨S32x4096x2, .f32⟩

abbrev bufTy : (tb : Table) → Fin (tcTables nBuf tb) → BufTy
  | .hbm, ⟨i, _⟩ => hbmTy i
  | _, _ => ⟨S32x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_c_2 : Ref sig .tc := ⟨.hbm, 20, rfl⟩
abbrev main_v15_0 : Ref sig .tc := ⟨.hbm, 21, rfl⟩
abbrev main_v15_1 : Ref sig .tc := ⟨.hbm, 22, rfl⟩
abbrev main_v15_2 : Ref sig .tc := ⟨.hbm, 23, rfl⟩
abbrev main_v15_3 : Ref sig .tc := ⟨.hbm, 24, rfl⟩
abbrev main_while0c_c_23 : Ref sig .tc := ⟨.hbm, 25, rfl⟩
abbrev main_while0c_v103 : Ref sig .tc := ⟨.hbm, 26, rfl⟩
abbrev main_while0b_call0_c : Ref sig .tc := ⟨.hbm, 27, rfl⟩
abbrev main_while0b_call0_c_0 : Ref sig .tc := ⟨.hbm, 28, rfl⟩
abbrev main_while0b_call0_v0 : Ref sig .tc := ⟨.hbm, 29, rfl⟩
abbrev main_while0b_v103 : Ref sig .tc := ⟨.hbm, 30, rfl⟩
abbrev main_while0b_cst_23 : Ref sig .tc := ⟨.hbm, 31, rfl⟩
abbrev main_while0b_v104 : Ref sig .tc := ⟨.hbm, 32, rfl⟩
abbrev main_while0b_v105 : Ref sig .tc := ⟨.hbm, 33, rfl⟩
abbrev main_while0b_v106 : Ref sig .tc := ⟨.hbm, 34, rfl⟩
abbrev main_while0b_v107 : Ref sig .tc := ⟨.hbm, 35, rfl⟩
abbrev main_while0b_v108 : Ref sig .tc := ⟨.hbm, 36, rfl⟩
abbrev main_while0b_v109 : Ref sig .tc := ⟨.hbm, 37, rfl⟩
abbrev main_while0b_v110 : Ref sig .tc := ⟨.hbm, 38, rfl⟩
abbrev main_while0b_v111 : Ref sig .tc := ⟨.hbm, 39, rfl⟩
abbrev main_while0b_v112 : Ref sig .tc := ⟨.hbm, 40, rfl⟩
abbrev main_while0b_v113 : Ref sig .tc := ⟨.hbm, 41, rfl⟩
abbrev main_while0b_v114 : Ref sig .tc := ⟨.hbm, 42, rfl⟩
abbrev main_while0b_v115 : Ref sig .tc := ⟨.hbm, 43, rfl⟩
abbrev main_while0b_v116 : Ref sig .tc := ⟨.hbm, 44, rfl⟩
abbrev main_while0b_v117 : Ref sig .tc := ⟨.hbm, 45, rfl⟩
abbrev main_while0b_v118 : Ref sig .tc := ⟨.hbm, 46, rfl⟩
abbrev main_while0b_v119 : Ref sig .tc := ⟨.hbm, 47, rfl⟩
abbrev main_while0b_v120 : Ref sig .tc := ⟨.hbm, 48, rfl⟩
abbrev main_while0b_v121 : Ref sig .tc := ⟨.hbm, 49, rfl⟩
abbrev main_while0b_v122 : Ref sig .tc := ⟨.hbm, 50, rfl⟩
abbrev main_while0b_v123 : Ref sig .tc := ⟨.hbm, 51, rfl⟩
abbrev main_while0b_call1_v0 : Ref sig .tc := ⟨.hbm, 52, rfl⟩
abbrev main_while0b_call1_c : Ref sig .tc := ⟨.hbm, 53, rfl⟩
abbrev main_while0b_call1_c_0 : Ref sig .tc := ⟨.hbm, 54, rfl⟩
abbrev main_while0b_call1_c_1 : Ref sig .tc := ⟨.hbm, 55, rfl⟩
abbrev main_while0b_v124 : Ref sig .tc := ⟨.hbm, 56, rfl⟩
abbrev main_while0b_c_24 : Ref sig .tc := ⟨.hbm, 57, rfl⟩
abbrev main_while0b_v125 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_cst_3 : Ref sig .tc := ⟨.hbm, 73, rfl⟩
abbrev main_v30 : Ref sig .tc := ⟨.hbm, 74, rfl⟩
abbrev main_v31 : Ref sig .tc := ⟨.hbm, 75, rfl⟩
abbrev main_cst_4 : Ref sig .tc := ⟨.hbm, 76, rfl⟩
abbrev main_v32 : Ref sig .tc := ⟨.hbm, 77, rfl⟩
abbrev main_v33 : Ref sig .tc := ⟨.hbm, 78, rfl⟩
abbrev main_cst_5 : Ref sig .tc := ⟨.hbm, 79, rfl⟩
abbrev main_call2_v0 : Ref sig .tc := ⟨.hbm, 80, rfl⟩
abbrev main_call2_v1 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_cst_6 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_c_7 : Ref sig .tc := ⟨.hbm, 102, rfl⟩
abbrev main_c_8 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_c_9 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_cst_10 : Ref sig .tc := ⟨.hbm, 112, rfl⟩
abbrev main_cst_11 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_call3_v5 : Ref sig .tc := ⟨.hbm, 119, rfl⟩
abbrev main_call3_v6 : Ref sig .tc := ⟨.hbm, 120, rfl⟩
abbrev main_call3_v7 : Ref sig .tc := ⟨.hbm, 121, rfl⟩
abbrev main_call3_v8 : Ref sig .tc := ⟨.hbm, 122, rfl⟩
abbrev main_call3_v9 : Ref sig .tc := ⟨.hbm, 123, rfl⟩
abbrev main_call3_v10 : Ref sig .tc := ⟨.hbm, 124, rfl⟩
abbrev main_call3_c : Ref sig .tc := ⟨.hbm, 125, rfl⟩
abbrev main_call3_v11 : Ref sig .tc := ⟨.hbm, 126, rfl⟩
abbrev main_call3_v12 : Ref sig .tc := ⟨.hbm, 127, rfl⟩
abbrev main_call3_c_0 : Ref sig .tc := ⟨.hbm, 128, rfl⟩
abbrev main_call3_v13 : Ref sig .tc := ⟨.hbm, 129, rfl⟩
abbrev main_call3_v14 : Ref sig .tc := ⟨.hbm, 130, rfl⟩
abbrev main_call3_c_1 : Ref sig .tc := ⟨.hbm, 131, rfl⟩
abbrev main_call3_v15 : Ref sig .tc := ⟨.hbm, 132, rfl⟩
abbrev main_call3_v16 : Ref sig .tc := ⟨.hbm, 133, rfl⟩
abbrev main_call3_v17 : Ref sig .tc := ⟨.hbm, 134, rfl⟩
abbrev main_call3_v18 : Ref sig .tc := ⟨.hbm, 135, rfl⟩
abbrev main_call3_c_2 : Ref sig .tc := ⟨.hbm, 136, rfl⟩
abbrev main_call3_v19 : Ref sig .tc := ⟨.hbm, 137, rfl⟩
abbrev main_call3_v20 : Ref sig .tc := ⟨.hbm, 138, rfl⟩
abbrev main_call3_v21 : Ref sig .tc := ⟨.hbm, 139, rfl⟩
abbrev main_call3_v22 : Ref sig .tc := ⟨.hbm, 140, rfl⟩
abbrev main_call3_call0_v0 : Ref sig .tc := ⟨.hbm, 141, rfl⟩
abbrev main_call3_call0_c : Ref sig .tc := ⟨.hbm, 142, rfl⟩
abbrev main_call3_call0_v1 : Ref sig .tc := ⟨.hbm, 143, rfl⟩
abbrev main_call3_call0_v2 : Ref sig .tc := ⟨.hbm, 144, rfl⟩
abbrev main_call3_call0_v3 : Ref sig .tc := ⟨.hbm, 145, rfl⟩
abbrev main_call3_call0_v4 : Ref sig .tc := ⟨.hbm, 146, rfl⟩
abbrev main_call3_call0_v5 : Ref sig .tc := ⟨.hbm, 147, rfl⟩
abbrev main_call3_call0_v6 : Ref sig .tc := ⟨.hbm, 148, rfl⟩
abbrev main_call3_call0_c_0 : Ref sig .tc := ⟨.hbm, 149, rfl⟩
abbrev main_call3_call0_v7 : Ref sig .tc := ⟨.hbm, 150, rfl⟩
abbrev main_call3_call0_v8 : Ref sig .tc := ⟨.hbm, 151, rfl⟩
abbrev main_call3_call0_c_1 : Ref sig .tc := ⟨.hbm, 152, rfl⟩
abbrev main_call3_call0_v9 : Ref sig .tc := ⟨.hbm, 153, rfl⟩
abbrev main_call3_call0_v10 : Ref sig .tc := ⟨.hbm, 154, rfl⟩
abbrev main_call3_call0_v11 : Ref sig .tc := ⟨.hbm, 155, rfl⟩
abbrev main_call3_call0_v12 : Ref sig .tc := ⟨.hbm, 156, rfl⟩
abbrev main_call3_call0_v13 : Ref sig .tc := ⟨.hbm, 157, rfl⟩
abbrev main_call3_call0_c_2 : Ref sig .tc := ⟨.hbm, 158, rfl⟩
abbrev main_call3_call0_v14 : Ref sig .tc := ⟨.hbm, 159, rfl⟩
abbrev main_call3_call0_v15 : Ref sig .tc := ⟨.hbm, 160, rfl⟩
abbrev main_call3_call0_c_3 : Ref sig .tc := ⟨.hbm, 161, rfl⟩
abbrev main_call3_call0_v16 : Ref sig .tc := ⟨.hbm, 162, rfl⟩
abbrev main_call3_call0_v17 : Ref sig .tc := ⟨.hbm, 163, rfl⟩
abbrev main_call3_call0_v18 : Ref sig .tc := ⟨.hbm, 164, rfl⟩
abbrev main_call3_call0_v19 : Ref sig .tc := ⟨.hbm, 165, rfl⟩
abbrev main_call3_call0_v20 : Ref sig .tc := ⟨.hbm, 166, rfl⟩
abbrev main_call3_call0_c_4 : Ref sig .tc := ⟨.hbm, 167, rfl⟩
abbrev main_call3_call0_v21 : Ref sig .tc := ⟨.hbm, 168, rfl⟩
abbrev main_call3_call0_v22 : Ref sig .tc := ⟨.hbm, 169, rfl⟩
abbrev main_call3_call0_c_5 : Ref sig .tc := ⟨.hbm, 170, rfl⟩
abbrev main_call3_call0_v23 : Ref sig .tc := ⟨.hbm, 171, rfl⟩
abbrev main_call3_call0_v24 : Ref sig .tc := ⟨.hbm, 172, rfl⟩
abbrev main_call3_call0_v25 : Ref sig .tc := ⟨.hbm, 173, rfl⟩
abbrev main_call3_call0_v26 : Ref sig .tc := ⟨.hbm, 174, rfl⟩
abbrev main_call3_call0_v27 : Ref sig .tc := ⟨.hbm, 175, rfl⟩
abbrev main_call3_call0_c_6 : Ref sig .tc := ⟨.hbm, 176, rfl⟩
abbrev main_call3_call0_v28 : Ref sig .tc := ⟨.hbm, 177, rfl⟩
abbrev main_call3_call0_v29 : Ref sig .tc := ⟨.hbm, 178, rfl⟩
abbrev main_call3_call0_c_7 : Ref sig .tc := ⟨.hbm, 179, rfl⟩
abbrev main_call3_call0_v30 : Ref sig .tc := ⟨.hbm, 180, rfl⟩
abbrev main_call3_call0_v31 : Ref sig .tc := ⟨.hbm, 181, rfl⟩
abbrev main_call3_call0_v32 : Ref sig .tc := ⟨.hbm, 182, rfl⟩
abbrev main_call3_call0_v33 : Ref sig .tc := ⟨.hbm, 183, rfl⟩
abbrev main_call3_call0_v34 : Ref sig .tc := ⟨.hbm, 184, rfl⟩
abbrev main_call3_call0_v35 : Ref sig .tc := ⟨.hbm, 185, rfl⟩
abbrev main_call3_call0_v36 : Ref sig .tc := ⟨.hbm, 186, rfl⟩
abbrev main_call3_call0_v37 : Ref sig .tc := ⟨.hbm, 187, rfl⟩
abbrev main_call3_call0_c_8 : Ref sig .tc := ⟨.hbm, 188, rfl⟩
abbrev main_call3_call0_v38 : Ref sig .tc := ⟨.hbm, 189, rfl⟩
abbrev main_call3_call0_v39 : Ref sig .tc := ⟨.hbm, 190, rfl⟩
abbrev main_call3_call0_v40 : Ref sig .tc := ⟨.hbm, 191, rfl⟩
abbrev main_call3_call0_c_9 : Ref sig .tc := ⟨.hbm, 192, rfl⟩
abbrev main_call3_call0_v41 : Ref sig .tc := ⟨.hbm, 193, rfl⟩
abbrev main_call3_call0_v42 : Ref sig .tc := ⟨.hbm, 194, rfl⟩
abbrev main_call3_call0_c_10 : Ref sig .tc := ⟨.hbm, 195, rfl⟩
abbrev main_call3_call0_v43 : Ref sig .tc := ⟨.hbm, 196, rfl⟩
abbrev main_call3_call0_v44 : Ref sig .tc := ⟨.hbm, 197, rfl⟩
abbrev main_call3_call0_v45 : Ref sig .tc := ⟨.hbm, 198, rfl⟩
abbrev main_call3_call0_v46 : Ref sig .tc := ⟨.hbm, 199, rfl⟩
abbrev main_call3_call0_v47 : Ref sig .tc := ⟨.hbm, 200, rfl⟩
abbrev main_call3_call0_c_11 : Ref sig .tc := ⟨.hbm, 201, rfl⟩
abbrev main_call3_call0_v48 : Ref sig .tc := ⟨.hbm, 202, rfl⟩
abbrev main_call3_call0_v49 : Ref sig .tc := ⟨.hbm, 203, rfl⟩
abbrev main_call3_call0_c_12 : Ref sig .tc := ⟨.hbm, 204, rfl⟩
abbrev main_call3_call0_v50 : Ref sig .tc := ⟨.hbm, 205, rfl⟩
abbrev main_call3_call0_v51 : Ref sig .tc := ⟨.hbm, 206, rfl⟩
abbrev main_call3_call0_v52 : Ref sig .tc := ⟨.hbm, 207, rfl⟩
abbrev main_call3_call0_v53 : Ref sig .tc := ⟨.hbm, 208, rfl⟩
abbrev main_call3_call0_v54 : Ref sig .tc := ⟨.hbm, 209, rfl⟩
abbrev main_call3_call0_c_13 : Ref sig .tc := ⟨.hbm, 210, rfl⟩
abbrev main_call3_call0_v55 : Ref sig .tc := ⟨.hbm, 211, rfl⟩
abbrev main_call3_call0_v56 : Ref sig .tc := ⟨.hbm, 212, rfl⟩
abbrev main_call3_call0_c_14 : Ref sig .tc := ⟨.hbm, 213, rfl⟩
abbrev main_call3_call0_v57 : Ref sig .tc := ⟨.hbm, 214, rfl⟩
abbrev main_call3_call0_v58 : Ref sig .tc := ⟨.hbm, 215, rfl⟩
abbrev main_call3_call0_v59 : Ref sig .tc := ⟨.hbm, 216, rfl⟩
abbrev main_call3_call0_v60 : Ref sig .tc := ⟨.hbm, 217, rfl⟩
abbrev main_call3_call0_v61 : Ref sig .tc := ⟨.hbm, 218, rfl⟩
abbrev main_call3_call0_c_15 : Ref sig .tc := ⟨.hbm, 219, rfl⟩
abbrev main_call3_call0_v62 : Ref sig .tc := ⟨.hbm, 220, rfl⟩
abbrev main_call3_call0_v63 : Ref sig .tc := ⟨.hbm, 221, rfl⟩
abbrev main_call3_call0_c_16 : Ref sig .tc := ⟨.hbm, 222, rfl⟩
abbrev main_call3_call0_v64 : Ref sig .tc := ⟨.hbm, 223, rfl⟩
abbrev main_call3_call0_v65 : Ref sig .tc := ⟨.hbm, 224, rfl⟩
abbrev main_call3_call0_v66 : Ref sig .tc := ⟨.hbm, 225, rfl⟩
abbrev main_call3_call0_v67 : Ref sig .tc := ⟨.hbm, 226, rfl⟩
abbrev main_call3_call0_v68 : Ref sig .tc := ⟨.hbm, 227, rfl⟩
abbrev main_call3_call0_v69 : Ref sig .tc := ⟨.hbm, 228, rfl⟩
abbrev main_call3_call0_v70 : Ref sig .tc := ⟨.hbm, 229, rfl⟩
abbrev main_call3_call0_v71 : Ref sig .tc := ⟨.hbm, 230, rfl⟩
abbrev main_call3_call0_c_17 : Ref sig .tc := ⟨.hbm, 231, rfl⟩
abbrev main_call3_call0_v72 : Ref sig .tc := ⟨.hbm, 232, rfl⟩
abbrev main_call3_call0_v73 : Ref sig .tc := ⟨.hbm, 233, rfl⟩
abbrev main_call3_call0_v74 : Ref sig .tc := ⟨.hbm, 234, rfl⟩
abbrev main_call3_call0_c_18 : Ref sig .tc := ⟨.hbm, 235, rfl⟩
abbrev main_call3_call0_v75 : Ref sig .tc := ⟨.hbm, 236, rfl⟩
abbrev main_call3_call0_v76 : Ref sig .tc := ⟨.hbm, 237, rfl⟩
abbrev main_call3_call0_c_19 : Ref sig .tc := ⟨.hbm, 238, rfl⟩
abbrev main_call3_call0_v77 : Ref sig .tc := ⟨.hbm, 239, rfl⟩
abbrev main_call3_call0_v78 : Ref sig .tc := ⟨.hbm, 240, rfl⟩
abbrev main_call3_call0_v79 : Ref sig .tc := ⟨.hbm, 241, rfl⟩
abbrev main_call3_call0_v80 : Ref sig .tc := ⟨.hbm, 242, rfl⟩
abbrev main_call3_call0_v81 : Ref sig .tc := ⟨.hbm, 243, rfl⟩
abbrev main_call3_call0_c_20 : Ref sig .tc := ⟨.hbm, 244, rfl⟩
abbrev main_call3_call0_v82 : Ref sig .tc := ⟨.hbm, 245, rfl⟩
abbrev main_call3_call0_v83 : Ref sig .tc := ⟨.hbm, 246, rfl⟩
abbrev main_call3_call0_c_21 : Ref sig .tc := ⟨.hbm, 247, rfl⟩
abbrev main_call3_call0_v84 : Ref sig .tc := ⟨.hbm, 248, rfl⟩
abbrev main_call3_call0_v85 : Ref sig .tc := ⟨.hbm, 249, rfl⟩
abbrev main_call3_call0_v86 : Ref sig .tc := ⟨.hbm, 250, rfl⟩
abbrev main_call3_call0_v87 : Ref sig .tc := ⟨.hbm, 251, rfl⟩
abbrev main_call3_call0_v88 : Ref sig .tc := ⟨.hbm, 252, rfl⟩
abbrev main_call3_call0_c_22 : Ref sig .tc := ⟨.hbm, 253, rfl⟩
abbrev main_call3_call0_v89 : Ref sig .tc := ⟨.hbm, 254, rfl⟩
abbrev main_call3_call0_v90 : Ref sig .tc := ⟨.hbm, 255, rfl⟩
abbrev main_call3_call0_c_23 : Ref sig .tc := ⟨.hbm, 256, rfl⟩
abbrev main_call3_call0_v91 : Ref sig .tc := ⟨.hbm, 257, rfl⟩
abbrev main_call3_call0_v92 : Ref sig .tc := ⟨.hbm, 258, rfl⟩
abbrev main_call3_call0_v93 : Ref sig .tc := ⟨.hbm, 259, rfl⟩
abbrev main_call3_call0_v94 : Ref sig .tc := ⟨.hbm, 260, rfl⟩
abbrev main_call3_call0_v95 : Ref sig .tc := ⟨.hbm, 261, rfl⟩
abbrev main_call3_call0_c_24 : Ref sig .tc := ⟨.hbm, 262, rfl⟩
abbrev main_call3_call0_v96 : Ref sig .tc := ⟨.hbm, 263, rfl⟩
abbrev main_call3_call0_v97 : Ref sig .tc := ⟨.hbm, 264, rfl⟩
abbrev main_call3_call0_c_25 : Ref sig .tc := ⟨.hbm, 265, rfl⟩
abbrev main_call3_call0_v98 : Ref sig .tc := ⟨.hbm, 266, rfl⟩
abbrev main_call3_call0_v99 : Ref sig .tc := ⟨.hbm, 267, rfl⟩
abbrev main_call3_call0_v100 : Ref sig .tc := ⟨.hbm, 268, rfl⟩
abbrev main_call3_call0_v101 : Ref sig .tc := ⟨.hbm, 269, rfl⟩
abbrev main_call3_call0_v102 : Ref sig .tc := ⟨.hbm, 270, rfl⟩
abbrev main_call3_call0_v103 : Ref sig .tc := ⟨.hbm, 271, rfl⟩
abbrev main_call3_call0_v104 : Ref sig .tc := ⟨.hbm, 272, rfl⟩
abbrev main_call3_call0_v105 : Ref sig .tc := ⟨.hbm, 273, rfl⟩
abbrev main_call3_call0_c_26 : Ref sig .tc := ⟨.hbm, 274, rfl⟩
abbrev main_call3_call0_v106 : Ref sig .tc := ⟨.hbm, 275, rfl⟩
abbrev main_call3_call0_v107 : Ref sig .tc := ⟨.hbm, 276, rfl⟩
abbrev main_call3_call0_v108 : Ref sig .tc := ⟨.hbm, 277, rfl⟩
abbrev main_call3_call0_c_27 : Ref sig .tc := ⟨.hbm, 278, rfl⟩
abbrev main_call3_call0_v109 : Ref sig .tc := ⟨.hbm, 279, rfl⟩
abbrev main_call3_call0_v110 : Ref sig .tc := ⟨.hbm, 280, rfl⟩
abbrev main_call3_call0_c_28 : Ref sig .tc := ⟨.hbm, 281, rfl⟩
abbrev main_call3_call0_v111 : Ref sig .tc := ⟨.hbm, 282, rfl⟩
abbrev main_call3_call0_v112 : Ref sig .tc := ⟨.hbm, 283, rfl⟩
abbrev main_call3_call0_v113 : Ref sig .tc := ⟨.hbm, 284, rfl⟩
abbrev main_call3_call0_v114 : Ref sig .tc := ⟨.hbm, 285, rfl⟩
abbrev main_call3_call0_v115 : Ref sig .tc := ⟨.hbm, 286, rfl⟩
abbrev main_call3_call0_c_29 : Ref sig .tc := ⟨.hbm, 287, rfl⟩
abbrev main_call3_call0_v116 : Ref sig .tc := ⟨.hbm, 288, rfl⟩
abbrev main_call3_call0_v117 : Ref sig .tc := ⟨.hbm, 289, rfl⟩
abbrev main_call3_call0_c_30 : Ref sig .tc := ⟨.hbm, 290, rfl⟩
abbrev main_call3_call0_v118 : Ref sig .tc := ⟨.hbm, 291, rfl⟩
abbrev main_call3_call0_v119 : Ref sig .tc := ⟨.hbm, 292, rfl⟩
abbrev main_call3_call0_v120 : Ref sig .tc := ⟨.hbm, 293, rfl⟩
abbrev main_call3_call0_v121 : Ref sig .tc := ⟨.hbm, 294, rfl⟩
abbrev main_call3_call0_v122 : Ref sig .tc := ⟨.hbm, 295, rfl⟩
abbrev main_call3_call0_c_31 : Ref sig .tc := ⟨.hbm, 296, rfl⟩
abbrev main_call3_call0_v123 : Ref sig .tc := ⟨.hbm, 297, rfl⟩
abbrev main_call3_call0_v124 : Ref sig .tc := ⟨.hbm, 298, rfl⟩
abbrev main_call3_call0_c_32 : Ref sig .tc := ⟨.hbm, 299, rfl⟩
abbrev main_call3_call0_v125 : Ref sig .tc := ⟨.hbm, 300, rfl⟩
abbrev main_call3_call0_v126 : Ref sig .tc := ⟨.hbm, 301, rfl⟩
abbrev main_call3_call0_v127 : Ref sig .tc := ⟨.hbm, 302, rfl⟩
abbrev main_call3_call0_v128 : Ref sig .tc := ⟨.hbm, 303, rfl⟩
abbrev main_call3_call0_v129 : Ref sig .tc := ⟨.hbm, 304, rfl⟩
abbrev main_call3_call0_c_33 : Ref sig .tc := ⟨.hbm, 305, rfl⟩
abbrev main_call3_call0_v130 : Ref sig .tc := ⟨.hbm, 306, rfl⟩
abbrev main_call3_call0_v131 : Ref sig .tc := ⟨.hbm, 307, rfl⟩
abbrev main_call3_call0_c_34 : Ref sig .tc := ⟨.hbm, 308, rfl⟩
abbrev main_call3_call0_v132 : Ref sig .tc := ⟨.hbm, 309, rfl⟩
abbrev main_call3_call0_v133 : Ref sig .tc := ⟨.hbm, 310, rfl⟩
abbrev main_call3_call0_v134 : Ref sig .tc := ⟨.hbm, 311, rfl⟩
abbrev main_call3_call0_v135 : Ref sig .tc := ⟨.hbm, 312, rfl⟩
abbrev main_call3_call0_v136 : Ref sig .tc := ⟨.hbm, 313, rfl⟩
abbrev main_call3_call0_v137 : Ref sig .tc := ⟨.hbm, 314, rfl⟩
abbrev main_call3_call0_v138 : Ref sig .tc := ⟨.hbm, 315, rfl⟩
abbrev main_call3_call0_v139 : Ref sig .tc := ⟨.hbm, 316, rfl⟩
abbrev main_call3_call0_c_35 : Ref sig .tc := ⟨.hbm, 317, rfl⟩
abbrev main_call3_call0_v140 : Ref sig .tc := ⟨.hbm, 318, rfl⟩
abbrev main_call3_call0_v141 : Ref sig .tc := ⟨.hbm, 319, rfl⟩
abbrev main_call3_call0_v142 : Ref sig .tc := ⟨.hbm, 320, rfl⟩
abbrev main_call3_call0_c_36 : Ref sig .tc := ⟨.hbm, 321, rfl⟩
abbrev main_call3_call0_v143 : Ref sig .tc := ⟨.hbm, 322, rfl⟩
abbrev main_call3_call0_v144 : Ref sig .tc := ⟨.hbm, 323, rfl⟩
abbrev main_call3_call0_c_37 : Ref sig .tc := ⟨.hbm, 324, rfl⟩
abbrev main_call3_call0_v145 : Ref sig .tc := ⟨.hbm, 325, rfl⟩
abbrev main_call3_call0_v146 : Ref sig .tc := ⟨.hbm, 326, rfl⟩
abbrev main_call3_call0_v147 : Ref sig .tc := ⟨.hbm, 327, rfl⟩
abbrev main_call3_call0_v148 : Ref sig .tc := ⟨.hbm, 328, rfl⟩
abbrev main_call3_call0_v149 : Ref sig .tc := ⟨.hbm, 329, rfl⟩
abbrev main_call3_call0_c_38 : Ref sig .tc := ⟨.hbm, 330, rfl⟩
abbrev main_call3_call0_v150 : Ref sig .tc := ⟨.hbm, 331, rfl⟩
abbrev main_call3_call0_v151 : Ref sig .tc := ⟨.hbm, 332, rfl⟩
abbrev main_call3_call0_c_39 : Ref sig .tc := ⟨.hbm, 333, rfl⟩
abbrev main_call3_call0_v152 : Ref sig .tc := ⟨.hbm, 334, rfl⟩
abbrev main_call3_call0_v153 : Ref sig .tc := ⟨.hbm, 335, rfl⟩
abbrev main_call3_call0_v154 : Ref sig .tc := ⟨.hbm, 336, rfl⟩
abbrev main_call3_call0_v155 : Ref sig .tc := ⟨.hbm, 337, rfl⟩
abbrev main_call3_call0_v156 : Ref sig .tc := ⟨.hbm, 338, rfl⟩
abbrev main_call3_call0_c_40 : Ref sig .tc := ⟨.hbm, 339, rfl⟩
abbrev main_call3_call0_v157 : Ref sig .tc := ⟨.hbm, 340, rfl⟩
abbrev main_call3_call0_v158 : Ref sig .tc := ⟨.hbm, 341, rfl⟩
abbrev main_call3_call0_c_41 : Ref sig .tc := ⟨.hbm, 342, rfl⟩
abbrev main_call3_call0_v159 : Ref sig .tc := ⟨.hbm, 343, rfl⟩
abbrev main_call3_call0_v160 : Ref sig .tc := ⟨.hbm, 344, rfl⟩
abbrev main_call3_call0_v161 : Ref sig .tc := ⟨.hbm, 345, rfl⟩
abbrev main_call3_call0_v162 : Ref sig .tc := ⟨.hbm, 346, rfl⟩
abbrev main_call3_call0_v163 : Ref sig .tc := ⟨.hbm, 347, rfl⟩
abbrev main_call3_call0_c_42 : Ref sig .tc := ⟨.hbm, 348, rfl⟩
abbrev main_call3_call0_v164 : Ref sig .tc := ⟨.hbm, 349, rfl⟩
abbrev main_call3_call0_v165 : Ref sig .tc := ⟨.hbm, 350, rfl⟩
abbrev main_call3_call0_c_43 : Ref sig .tc := ⟨.hbm, 351, rfl⟩
abbrev main_call3_call0_v166 : Ref sig .tc := ⟨.hbm, 352, rfl⟩
abbrev main_call3_call0_v167 : Ref sig .tc := ⟨.hbm, 353, rfl⟩
abbrev main_call3_call0_v168 : Ref sig .tc := ⟨.hbm, 354, rfl⟩
abbrev main_call3_call0_v169 : Ref sig .tc := ⟨.hbm, 355, rfl⟩
abbrev main_call3_call0_v170 : Ref sig .tc := ⟨.hbm, 356, rfl⟩
abbrev main_call3_v23_0 : Ref sig .tc := ⟨.hbm, 357, rfl⟩
abbrev main_call3_call0_v172 : Ref sig .tc := ⟨.hbm, 358, rfl⟩
abbrev main_call3_call0_v173 : Ref sig .tc := ⟨.hbm, 359, rfl⟩
abbrev main_call3_call0_c_44 : Ref sig .tc := ⟨.hbm, 360, rfl⟩
abbrev main_call3_call0_v174 : Ref sig .tc := ⟨.hbm, 361, rfl⟩
abbrev main_call3_v23_1 : Ref sig .tc := ⟨.hbm, 362, rfl⟩
abbrev main_call3_v24 : Ref sig .tc := ⟨.hbm, 363, rfl⟩
abbrev main_call3_c_3 : Ref sig .tc := ⟨.hbm, 364, rfl⟩
abbrev main_call3_v25 : Ref sig .tc := ⟨.hbm, 365, rfl⟩
abbrev main_call3_v26 : Ref sig .tc := ⟨.hbm, 366, rfl⟩
abbrev main_call3_c_4 : Ref sig .tc := ⟨.hbm, 367, rfl⟩
abbrev main_call3_v27 : Ref sig .tc := ⟨.hbm, 368, rfl⟩
abbrev main_call3_v28 : Ref sig .tc := ⟨.hbm, 369, rfl⟩
abbrev main_call3_v29 : Ref sig .tc := ⟨.hbm, 370, rfl⟩
abbrev main_call3_cst : Ref sig .tc := ⟨.hbm, 371, rfl⟩
abbrev main_call3_v30 : Ref sig .tc := ⟨.hbm, 372, rfl⟩
abbrev main_call3_v31 : Ref sig .tc := ⟨.hbm, 373, rfl⟩
abbrev main_call3_v32 : Ref sig .tc := ⟨.hbm, 374, rfl⟩
abbrev main_call3_v33 : Ref sig .tc := ⟨.hbm, 375, rfl⟩
abbrev main_call3_v34 : Ref sig .tc := ⟨.hbm, 376, rfl⟩
abbrev main_call3_v35 : Ref sig .tc := ⟨.hbm, 377, rfl⟩
abbrev main_call3_v36 : Ref sig .tc := ⟨.hbm, 378, rfl⟩
abbrev main_call3_v37 : Ref sig .tc := ⟨.hbm, 379, rfl⟩
abbrev main_v60 : Ref sig .tc := ⟨.hbm, 380, rfl⟩
abbrev main_v61 : Ref sig .tc := ⟨.hbm, 381, rfl⟩
abbrev main_v62 : Ref sig .tc := ⟨.hbm, 382, rfl⟩
abbrev main_v63 : Ref sig .tc := ⟨.hbm, 383, rfl⟩
abbrev main_v64 : Ref sig .tc := ⟨.hbm, 384, rfl⟩
abbrev main_v65 : Ref sig .tc := ⟨.hbm, 385, rfl⟩
abbrev main_v66 : Ref sig .tc := ⟨.hbm, 386, rfl⟩
abbrev main_values : Ref sig .tc := ⟨.hbm, 387, rfl⟩
abbrev main_indices : Ref sig .tc := ⟨.hbm, 388, rfl⟩
abbrev main_v67 : Ref sig .tc := ⟨.hbm, 389, rfl⟩
abbrev main_v68 : Ref sig .tc := ⟨.hbm, 390, rfl⟩
abbrev main_v69 : Ref sig .tc := ⟨.hbm, 391, rfl⟩
abbrev main_v70 : Ref sig .tc := ⟨.hbm, 392, rfl⟩
abbrev main_cst_12 : Ref sig .tc := ⟨.hbm, 393, rfl⟩
abbrev main_v71 : Ref sig .tc := ⟨.hbm, 394, rfl⟩
abbrev main_c_13 : Ref sig .tc := ⟨.hbm, 395, rfl⟩
abbrev main_v72 : Ref sig .tc := ⟨.hbm, 396, rfl⟩
abbrev main_v73 : Ref sig .tc := ⟨.hbm, 397, rfl⟩
abbrev main_c_14 : Ref sig .tc := ⟨.hbm, 398, rfl⟩
abbrev main_v74 : Ref sig .tc := ⟨.hbm, 399, rfl⟩
abbrev main_v75 : Ref sig .tc := ⟨.hbm, 400, rfl⟩
abbrev main_v76 : Ref sig .tc := ⟨.hbm, 401, rfl⟩
abbrev main_c_15 : Ref sig .tc := ⟨.hbm, 402, rfl⟩
abbrev main_v77 : Ref sig .tc := ⟨.hbm, 403, rfl⟩
abbrev main_v78 : Ref sig .tc := ⟨.hbm, 404, rfl⟩
abbrev main_c_16 : Ref sig .tc := ⟨.hbm, 405, rfl⟩
abbrev main_v79 : Ref sig .tc := ⟨.hbm, 406, rfl⟩
abbrev main_v80 : Ref sig .tc := ⟨.hbm, 407, rfl⟩
abbrev main_v81 : Ref sig .tc := ⟨.hbm, 408, rfl⟩
abbrev main_c_17 : Ref sig .tc := ⟨.hbm, 409, rfl⟩
abbrev main_v82 : Ref sig .tc := ⟨.hbm, 410, rfl⟩
abbrev main_v83 : Ref sig .tc := ⟨.hbm, 411, rfl⟩
abbrev main_c_18 : Ref sig .tc := ⟨.hbm, 412, rfl⟩
abbrev main_v84 : Ref sig .tc := ⟨.hbm, 413, rfl⟩
abbrev main_v85 : Ref sig .tc := ⟨.hbm, 414, rfl⟩
abbrev main_v86 : Ref sig .tc := ⟨.hbm, 415, rfl⟩
abbrev main_v87 : Ref sig .tc := ⟨.hbm, 416, rfl⟩
abbrev main_v88 : Ref sig .tc := ⟨.hbm, 417, rfl⟩
abbrev main_v89 : Ref sig .tc := ⟨.hbm, 418, rfl⟩
abbrev main_v90 : Ref sig .tc := ⟨.hbm, 419, rfl⟩
abbrev main_v91 : Ref sig .tc := ⟨.hbm, 420, rfl⟩
abbrev main_v92 : Ref sig .tc := ⟨.hbm, 421, rfl⟩
abbrev main_cst_19 : Ref sig .tc := ⟨.hbm, 422, rfl⟩
abbrev main_v93 : Ref sig .tc := ⟨.hbm, 423, rfl⟩
abbrev main_v94 : Ref sig .tc := ⟨.hbm, 424, rfl⟩
abbrev main_v95 : Ref sig .tc := ⟨.hbm, 425, rfl⟩
abbrev main_v96 : Ref sig .tc := ⟨.hbm, 426, rfl⟩
abbrev main_v97 : Ref sig .tc := ⟨.hbm, 427, rfl⟩
abbrev main_v98 : Ref sig .tc := ⟨.hbm, 428, rfl⟩
abbrev main_v99 : Ref sig .tc := ⟨.hbm, 429, rfl⟩
abbrev main_v100 : Ref sig .tc := ⟨.hbm, 430, rfl⟩
abbrev main_v101 : Ref sig .tc := ⟨.hbm, 431, rfl⟩
abbrev main_v102 : Ref sig .tc := ⟨.hbm, 432, rfl⟩

abbrev nD : Nat := 1
abbrev τ : Topo := Topo.v7x

variable {F : FTy → Type} [FloatOps F]

abbrev main_while0_count : Scf.Loop 32 := ⟨0#32, 4096#32, 1#32⟩
-- ==== Proof.P.Body.lean ====
module

public import proofs.«01_k».proof.Proof.Gen.Kernel.Frame
public import proofs.«01_k».proof.Proof.Gen.Kernel.Loops
public import Idealize.ShloMosaic.Lib.Pipeline.FrameBody
public import proofs.«01_k».proof.Proof.Gen.Kernel.Frame
public import proofs.«01_k».proof.Proof.Gen.Kernel.Loops
public import Idealize.ShloMosaic.Lib.WritesUnit
public import Idealize.ShloMosaic.Lib.VecWindow
public import Idealize.ShloMosaic.Lib.WholeRead

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F] [∀ e, Nonempty (Elt F e)]

abbrev UU (nD : Nat) (τ : Topo) : Type := UR sig nD τ
abbrev 𝒱₀ : Variants := Variants.none
local notation "𝕄" => MT nD τ sig Unit (Elt F) ℕ (UR sig nD τ) ℕ

/-- One trip of the sweep loop takes the buffers it uses from some contents to some contents. -/
theorem trip_sweep (c : Dev nD) (arg0 : Memref sig .tc .vmem S4096x64 .f32) (harg0 : arg0.IsWhole) (arg1 : Memref sig .tc .vmem S64x4096 .f32) (harg1 : arg1.IsWhole) (arg2 : Memref sig .tc .vmem S64x4096 .f32) (harg2 : arg2.IsWhole) (arg3 : Memref sig .tc .vmem S4096x64 .f32) (harg3 : arg3.IsWhole) (arg4 : Memref sig .tc .vmem S64x4096 .f32) (harg4 : arg4.IsWhole) (arg5 : Memref sig .tc .vmem S2048x32x128 .f32) (harg5 : arg5.IsWhole) (arg6 : Memref sig .tc .vmem S256x8x128 .f32) (harg6 : arg6.IsWhole) (arg7 : Memref sig .tc .vmem S256x8x128 .f32) (harg7 : arg7.IsWhole) (arg8 : Memref sig .tc .vmem S64x4096 .f32) (harg8 : arg8.IsWhole) (k : Fin k0_t1_loop.trips) (acc : FVec F S33x128 .f32) (f0 : BufTy.Contents (Elt F) arg0.view.ty)
   (f5 : BufTy.Contents (Elt F) arg5.view.ty) (f6 : BufTy.Contents (Elt F) arg6.view.ty) (f7 : BufTy.Contents (Elt F) arg7.view.ty) :
   iprop((arg0.view.loc (c : Thread nD τ) ↦[arg0.view.set]{fullShare} f0) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7))
   ⊢ (wp frame (wpE (defs₀ (F := F)) 𝒱₀ (c : Thread nD τ) none) Set.univ (k0_t1_body (F := F) arg0 harg0 arg1 harg1 arg2 harg2 arg3 harg3 arg4 harg4 arg5 harg5 arg6 harg6 arg7 harg7 arg8 harg8 k acc)
      (fun _ => iprop((arg0.view.loc (c : Thread nD τ) ↦[arg0.view.set]{fullShare} f0) ∗ (∃ f, (arg5.view.loc (c : Thread nD τ) ↦[arg5.view.set]{fullShare} f)) ∗ (∃ f, (arg6.view.loc (c : Thread nD τ) ↦[arg6.view.set]{fullShare} f)) ∗ (∃ f, (arg7.view.loc (c : Thread nD τ) ↦[arg7.view.set]{fullShare} f)))) : sProp 𝕄) := by
  unfold k0_t1_body
  by_cases h1 : k0_cond1 k = 1#1 <;> by_cases h2 : k0_cond2 k = 1#1
  all_goals
    iintro ⟨H0, H5, H6, H7⟩
    sl_exec
    sl_step
    isplitl [H0]; · iexact H0
    isplitl [H5]; · iexists _; iexact H5
    isplitl [H6]; · iexists _; iexact H6
    iexists _; iexact H7

set_option warn.classDefReducibility false in
/-- The sweep loop by its invariant: the scores stay, the scratch buffers are at some contents. -/
@[sl_loop] def loopInvSweep (c : Dev nD) (arg0 : Memref sig .tc .vmem S4096x64 .f32) (harg0 : arg0.IsWhole) (arg1 : Memref sig .tc .vmem S64x4096 .f32) (harg1 : arg1.IsWhole) (arg2 : Memref sig .tc .vmem S64x4096 .f32) (harg2 : arg2.IsWhole) (arg3 : Memref sig .tc .vmem S4096x64 .f32) (harg3 : arg3.IsWhole) (arg4 : Memref sig .tc .vmem S64x4096 .f32) (harg4 : arg4.IsWhole) (arg5 : Memref sig .tc .vmem S2048x32x128 .f32) (harg5 : arg5.IsWhole) (arg6 : Memref sig .tc .vmem S256x8x128 .f32) (harg6 : arg6.IsWhole) (arg7 : Memref sig .tc .vmem S256x8x128 .f32) (harg7 : arg7.IsWhole) (arg8 : Memref sig .tc .vmem S64x4096 .f32) (harg8 : arg8.IsWhole) (f0 : BufTy.Contents (Elt F) arg0.view.ty) :
    LoopInvTy_k0_t1 (F := F) Unit ℕ (UR sig nD τ) ℕ 𝒱₀ c none Set.univ arg0 harg0 arg1 harg1 arg2 harg2 arg3 harg3 arg4 harg4 arg5 harg5 arg6 harg6 arg7 harg7 arg8 harg8 (k0_pay56 (F := F)) where
  inv _ _ := iprop((arg0.view.loc (c : Thread nD τ) ↦[arg0.view.set]{fullShare} f0) ∗ (∃ f, (arg5.view.loc (c : Thread nD τ) ↦[arg5.view.set]{fullShare} f)) ∗ (∃ f, (arg6.view.loc (c : Thread nD τ) ↦[arg6.view.set]{fullShare} f)) ∗ (∃ f, (arg7.view.loc (c : Thread nD τ) ↦[arg7.view.set]{fullShare} f)))
  step k acc := by
    iintro ⟨H0, ⟨%f5, H5⟩, ⟨%f6, H6⟩, ⟨%f7, H7⟩⟩
    iapply (trip_sweep c arg0 harg0 arg1 harg1 arg2 harg2 arg3 harg3 arg4 harg4 arg5 harg5 arg6 harg6 arg7 harg7 arg8 harg8 k acc f0 f5 f6 f7)
    isplitl [H0]; · iexact H0
    isplitl [H5]; · iexact H5
    isplitl [H6]; · iexact H6
    iexact H7

/-- The body's triple: the inputs stay, the outputs and the scratch buffers end at some contents. -/
theorem kernelRun (c : Dev nD) (arg0 : Memref sig .tc .vmem S4096x64 .f32) (harg0 : arg0.IsWhole) (arg1 : Memref sig .tc .vmem S64x4096 .f32) (harg1 : arg1.IsWhole) (arg2 : Memref sig .tc .vmem S64x4096 .f32) (harg2 : arg2.IsWhole) (arg3 : Memref sig .tc .vmem S4096x64 .f32) (harg3 : arg3.IsWhole) (arg4 : Memref sig .tc .vmem S64x4096 .f32) (harg4 : arg4.IsWhole) (arg5 : Memref sig .tc .vmem S2048x32x128 .f32) (harg5 : arg5.IsWhole) (arg6 : Memref sig .tc .vmem S256x8x128 .f32) (harg6 : arg6.IsWhole) (arg7 : Memref sig .tc .vmem S256x8x128 .f32) (harg7 : arg7.IsWhole) (arg8 : Memref sig .tc .vmem S64x4096 .f32) (harg8 : arg8.IsWhole) (x : Vec F S4096x64 .f32) (y z : Vec F S64x4096 .f32) (K : PUnit → sProp 𝕄) :
    iprop(owns (c : Thread nD τ) arg0 fullShare x ∗ owns (c : Thread nD τ) arg1 fullShare y ∗ owns (c : Thread nD τ) arg2 fullShare z ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x ∗ owns (c : Thread nD τ) arg1 fullShare y ∗ owns (c : Thread nD τ) arg2 fullShare z ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) 𝒱₀ c none) Set.univ (cc0_body arg0 harg0 arg1 harg1 arg2 harg2 arg3 harg3 arg4 harg4 arg5 harg5 arg6 harg6 arg7 harg7 arg8 harg8) K := by
  simp only [cc0_body_eq_skeleton]; unfold cc0_body_skel
  unfold owns
  iintro ⟨⟨%f0, %e0, H0⟩, ⟨%f1, %e1, H1⟩, ⟨%f2, %e2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  sl_exec
  sl_step
  iapply Hk
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

variable (m : (ℓ : Loc nD τ sig) → Buf (Elt F) ℓ)

/-- The scratch memrefs the body is called with. -/
abbrev scr0 : Memref sig .tc .vmem S2048x32x128 .f32 := Memref.whole cc0_scratch0
abbrev scr1 : Memref sig .tc .vmem S256x8x128 .f32 := Memref.whole cc0_scratch1
abbrev scr2 : Memref sig .tc .vmem S256x8x128 .f32 := Memref.whole cc0_scratch2
abbrev scr3 : Memref sig .tc .vmem S64x4096 .f32 := Memref.whole cc0_scratch3

/-- The invariant of the region: the scratch buffers at some contents and the generator register at some state. -/
theorem PhiA0_eq (c : Dev nD) :
    (Pipeline.ΦA spec0 c : sProp 𝕄)
      = iprop(iprop((∃ d, owns (c : Thread nD τ) scr0 fullShare d) ∗ (∃ d, owns (c : Thread nD τ) scr1 fullShare d)
          ∗ (∃ d, owns (c : Thread nD τ) scr2 fullShare d) ∗ (∃ d, owns (c : Thread nD τ) scr3 fullShare d)) ∗ (∃ r, prngReg c r)) := by
  unfold Pipeline.ΦA
  rw [scopedRest0_eq]; simp only [scr0, scr1, scr2, scr3, owns_whole]; try rfl

/-- The two outputs are forgotten: nothing is said of what they hold. -/
def forgets0 : Fin 5 → Bool := ![false, false, false, true, true]

/-- The proof data: the inputs stay at their blocks, the outputs are left unnamed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => Pipeline.Dat.unnamed (cfg := cfg0) 3 t
    | 4 => Pipeline.Dat.unnamed (cfg := cfg0) 4 t
    | ⟨_ + 5, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

/-- What the body is called with at the region's one point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d)
    ∗ (∃ d, owns (c : Thread nD τ) (st0_4 t) fullShare d))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d)
    ∗ (∃ d, owns (c : Thread nD τ) (st0_4 t) fullShare d))

/-- The body at the region's point. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, PhiA0_eq]
  simp only [before0_0_of m (dats m 0 c) (A_eq m c 0) (after_0 m c), before0_1_of m (dats m 0 c) (A_eq m c 1) (after_1 m c),
    before0_2_of m (dats m 0 c) (A_eq m c 2) (after_2 m c), after_0, after_1, after_2]
  iintro ⟨⟨⟨HS0, HS1, HS2, HS3⟩, Hg⟩, HO, ⟨%_, H0⟩, ⟨%_, H1⟩, ⟨%_, H2⟩, ⟨%d3, H3⟩, ⟨%d4, H4⟩⟩
  iapply (kernelRun c (st0_0 t) (hstage0_0 0) (st0_1 t) (hstage0_1 0) (st0_2 t) (hstage0_2 0) (st0_3 t) (hstage0_3 0) (st0_4 t) (hstage0_4 0)
    scr0 (Memref.isWhole_whole _) scr1 (Memref.isWhole_whole _) scr2 (Memref.isWhole_whole _) scr3 (Memref.isWhole_whole _)
    (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [HO]; · iexact HO
  isplitl [H0]; · iexact H0
  isplitl [H1]; · iexact H1
  isplitl [H2]; · iexact H2
  isplitl [H3]; · iexact H3
  iexact H4

/-- The body table's row at the point is the body as the pipeline calls it. -/
theorem defs₀_row (t : Fin cfg0.N) : defs₀ (F := F) .tc cfg0.body (cfg0.bodyArgs t (cfg0.slots t)) = bodyAt0 t := by
  unfold defs₀; rw [Defs.onTc_tc]

/-- The library's body obligation, the outputs forgotten. -/
theorem body_obligation (c : Dev nD) :
    BodyObligation (dats (F := F) m 0 c) (defs₀ (F := F)) 𝒱₀ () Set.univ forgets0 := fun t => by
  rw [bigSep_W0, bigSep_W0, defs₀_row]
  exact triple_restated (sound_body m c t) rfl .rfl fun _ => .rfl

/-- The buffers the host operations after the region write. -/
def T0 : Finset (Ref sig .tc) := {main_call0_v17, main_call0_v18, main_call0_v19, main_call0_v20, main_call0_v21, main_call0_v22, main_call0_v23, main_v0_0, main_call0_v25, main_v0_1}

/-- Each of those operations writes a buffer of that list. -/
theorem T0_writes : ∀ ops ∈ ([hostOps1] : List (List (HloOp τ sig (Elt F)))), ∀ op ∈ ops, ∀ b : Ref sig .tc, Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl
  all_goals
    simp only [StableHlo.nullary_writes, StableHlo.unary_writes, StableHlo.binary_writes, StableHlo.ternary_writes, StableHlo.quaternary_writes, StableHlo.reshape_writes, StableHlo.binaryIndexed_writes, Finset.mem_singleton] at hb
    have e := Proc.devRef_injective .tc hb
    subst e
    decide

set_option backward.isDefEq.respectTransparency.types false in
/-- The run of the whole program, with the outputs forgotten. -/
theorem run_raw (g : Dev nD → PrngReg) :
    θ_run defs (onTc (τ := τ) (main (F := F))) ⟨m, fun _ => 0, g⟩
      (fun r => Pipeline.RDat.FramePostR (cfgs 0) (fun c => (dats m 0 c).toRForget forgets0) T0 (V m) r ∧ r.2.sem = fun _ => 0) :=
  Pipeline.θ_run_frame_around_T_forget (Q' := _) cfgs (dats m) (0 : Fin 1) launch0 defs₀ 𝒱₀ forgets0 T0 m g main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := T0_writes) (hmain := hmain m 𝒱₀) (hA := A_eq m) (hΦ := fun _ _ => rfl)

/-- The run of the whole program: every weakly fair execution ends, every argument as launched, the counters at zero. -/
theorem run_main (g : Dev nD → PrngReg) :
    θ_run defs (onTc (τ := τ) (main (F := F))) ⟨m, fun _ => 0, g⟩
      (fun r => (∀ c : Dev nD, r.2.mem ((c.tc : Thread nD τ).loc main_arg0) = m ((c.tc : Thread nD τ).loc main_arg0)) ∧ r.2.sem = fun _ => 0) :=
  (θ_run defs _ _).mono (fun _ h => ⟨fun c => ((h.1 c).2 main_arg0 (Finset.mem_sdiff.mpr
      ⟨Pipeline.mem_restRefs_of main_arg0 (by decide) (by decide), by decide⟩)).trans (V_main_arg0 m c), h.2⟩) (run_raw m g)

end Cert.Proof.Kernel

end
-- ==== Proof.PI.Vocab.lean ====
module

public import proofs.«01_k».proof.Proof.Gen.KernelIdeal.Skeleton
public import Idealize.ShloMosaic.Lib.Pipeline.ValueKit.Tiles
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.Pointwise

variable {F : FTy → Type} [FloatOps F] [Named F]

/-- The scores of step `t` as the sweep adds them: the forward lanes take row `t`, the backward lanes row `4095 - t`. -/
def rowC (X : S4096x64.Idx → F .f32) (t : ℕ) : FVec F S1x128 .f32 := fun i =>
  if h : (i 1).val < 64 then X (ix2 ⟨t % 4096, Nat.mod_lt _ (by decide)⟩ ⟨(i 1).val, h⟩)
  else X (ix2 ⟨4095 - t % 4096, by omega⟩ ⟨(i 1).val - 64, by have := (i 1).isLt; change (i 1).val < 128 at this; omega⟩)

/-- One step of the two sweeps. -/
def stepV (th : FVec F S1x128 .f32) (A : FVec F S33x128 .f32) : FVec F S33x128 .f32 :=
  k0_pay57 A th (concatenate S33x128 0 [⟨S1x128, k0_pay53 (F := F)⟩, ⟨S32x128, extractStridedSlice S32x128 ![0, 0] A slices_S33x128_o0_0_S32x128⟩] concatenates_S1x128_S32x128_S33x128_d0)
    (extractStridedSlice S32x128 ![1, 0] A slices_S33x128_o1_0_S32x128)

/-- The 32 rows of a sweep state that the marginals combine. -/
def slabV (A : FVec F S33x128 .f32) : FVec F S32x128 .f32 := k0_pay29 k0_pay55 A

/-- The two sweeps' state before step `t`. -/
def FGat (X : S4096x64.Idx → F .f32) : ℕ → FVec F S33x128 .f32
  | 0 => k0_pay56
  | t + 1 => stepV (rowC X t) (FGat X t)

/-- The combined value of step `t`, from the stored state `4095 - t` and the present one. -/
def combV (X : S4096x64.Idx → F .f32) (t : ℕ) : FVec F S1x128 .f32 :=
  k0_pay12 (slabV (FGat X t)) (k0_pay6 (slabV (FGat X (4095 - t))))

/-- Row `s` of the two blocks of scores a trip loads, side by side. -/
def pairC (a b : Vec F S8x64 .f32) (o o' : ℕ) (h : S8x64.Slices ![o, 0] S1x64) (h' : S8x64.Slices ![o', 0] S1x64) : FVec F S1x128 .f32 :=
  concatenate S1x128 1 [⟨S1x64, extractStridedSlice S1x64 ![o, 0] (k0_pay27 a) h⟩, ⟨S1x64, extractStridedSlice S1x64 ![o', 0] (k0_pay28 b) h'⟩]
    concatenates_S1x64_S1x64_S1x128_d1

/-- The eight rows of scores of one trip. -/
def thC (a b : Vec F S8x64 .f32) : ℕ → FVec F S1x128 .f32
  | 0 => pairC a b 0 7 slices_S8x64_o0_0_S1x64 slices_S8x64_o7_0_S1x64
  | 1 => pairC a b 1 6 slices_S8x64_o1_0_S1x64 slices_S8x64_o6_0_S1x64
  | 2 => pairC a b 2 5 slices_S8x64_o2_0_S1x64 slices_S8x64_o5_0_S1x64
  | 3 => pairC a b 3 4 slices_S8x64_o3_0_S1x64 slices_S8x64_o4_0_S1x64
  | 4 => pairC a b 4 3 slices_S8x64_o4_0_S1x64 slices_S8x64_o3_0_S1x64
  | 5 => pairC a b 5 2 slices_S8x64_o5_0_S1x64 slices_S8x64_o2_0_S1x64
  | 6 => pairC a b 6 1 slices_S8x64_o6_0_S1x64 slices_S8x64_o1_0_S1x64
  | _ => pairC a b 7 0 slices_S8x64_o7_0_S1x64 slices_S8x64_o0_0_S1x64

/-- The states inside one trip. -/
def iterC (a b : Vec F S8x64 .f32) (A : FVec F S33x128 .f32) : ℕ → FVec F S33x128 .f32
  | 0 => A
  | s + 1 => stepV (thC a b s) (iterC a b A s)

/-- Eight one-row vectors stacked. -/
def rows8 (r : ℕ → FVec F S1x128 .f32) : FVec F S8x128 .f32 :=
  concatenate S8x128 0 [⟨S1x128, r 0⟩, ⟨S1x128, r 1⟩, ⟨S1x128, r 2⟩, ⟨S1x128, r 3⟩, ⟨S1x128, r 4⟩, ⟨S1x128, r 5⟩, ⟨S1x128, r 6⟩, ⟨S1x128, r 7⟩]
    concatenates_S1x128_S1x128_S1x128_S1x128_S1x128_S1x128_S1x128_S1x128_S8x128_d0

/-- Two rows side by side, entry by entry. -/
theorem pairC_apply (a b : Vec F S8x64 .f32) (o o' : ℕ) (ho : o < 8) (ho' : o' < 8) (h : S8x64.Slices ![o, 0] S1x64)
    (h' : S8x64.Slices ![o', 0] S1x64) (i : S1x128.Idx) :
    pairC a b o o' h h' i = if hi : (i 1).val < 64 then a (ix2 ⟨o, ho⟩ ⟨(i 1).val, hi⟩)
      else b (ix2 ⟨o', ho'⟩ ⟨(i 1).val - 64, by have := (i 1).isLt; change (i 1).val < 128 at this; omega⟩) := by
  pointwise [pairC, k0_pay27, k0_pay28]

/-- Row `j` of a stack is the `j`-th vector. -/
theorem rows8_apply (r : ℕ → FVec F S1x128 .f32) (j : S8x128.Idx) : rows8 r j = r (j 0).val (ix2 0 (j 1)) := by
  unfold rows8
  concat_tiles i h
  all_goals
    have hi : i = ix2 0 (j 1) := by
      funext a
      match a with
      | ⟨0, _⟩ => exact Fin.ext h0
      | ⟨1, _⟩ => exact Fin.ext h1
    rw [h, hi]; rfl

/-- A slab with a unit axis in front, entry by entry. -/
theorem pay6_apply (w : FVec F S32x128 .f32) (i : S1x32x128.Idx) : k0_pay6 w i = w (ix2 (i 1) (i 2)) := by
  pointwise [k0_pay6]

/-- A stack with a unit axis in front, entry by entry. -/
theorem pay61_apply (w : FVec F S8x128 .f32) (i : S1x8x128.Idx) : k0_pay61 w i = w (ix2 (i 1) (i 2)) := by
  pointwise [k0_pay61]

/-- The rows a trip loads are the sweep's rows of scores, when the two blocks are the arrays' rows from `8 k` and from `4088 - 8 k`. -/
theorem thC_eq (X : S4096x64.Idx → F .f32) (a b : Vec F S8x64 .f32) (k : ℕ) (hk : k < 512)
    (ha : ∀ (s : Fin 8) (j : Fin 64), a (ix2 s j) = X (ix2 ⟨8 * k + s.val, by omega⟩ j))
    (hb : ∀ (s : Fin 8) (j : Fin 64), b (ix2 s j) = X (ix2 ⟨4088 - 8 * k + s.val, by omega⟩ j)) (s : ℕ) (hs : s < 8) :
    thC a b s = rowC X (8 * k + s) := by
  have key : ∀ (o o' : ℕ) (ho : o < 8) (ho' : o' < 8) (h : S8x64.Slices ![o, 0] S1x64) (h' : S8x64.Slices ![o', 0] S1x64),
      o' = 7 - o → pairC a b o o' h h' = rowC X (8 * k + o) := by
    intro o o' ho ho' h h' e
    funext i
    rw [pairC_apply a b o o' ho ho' h h' i]
    unfold rowC
    split
    · rw [ha]; congr 2; exact Fin.ext (by simp only; omega)
    · rw [hb]; congr 2; exact Fin.ext (by simp only; omega)
  match s, hs with
  | 0, _ => exact key 0 7 (by decide) (by decide) _ _ rfl
  | 1, _ => exact key 1 6 (by decide) (by decide) _ _ rfl
  | 2, _ => exact key 2 5 (by decide) (by decide) _ _ rfl
  | 3, _ => exact key 3 4 (by decide) (by decide) _ _ rfl
  | 4, _ => exact key 4 3 (by decide) (by decide) _ _ rfl
  | 5, _ => exact key 5 2 (by decide) (by decide) _ _ rfl
  | 6, _ => exact key 6 1 (by decide) (by decide) _ _ rfl
  | 7, _ => exact key 7 0 (by decide) (by decide) _ _ rfl

/-- The states inside trip `k` are the sweep's states from step `8 k` on. -/
theorem iterC_eq (X : S4096x64.Idx → F .f32) (a b : Vec F S8x64 .f32) (k : ℕ) (hk : k < 512)
    (ha : ∀ (s : Fin 8) (j : Fin 64), a (ix2 s j) = X (ix2 ⟨8 * k + s.val, by omega⟩ j))
    (hb : ∀ (s : Fin 8) (j : Fin 64), b (ix2 s j) = X (ix2 ⟨4088 - 8 * k + s.val, by omega⟩ j)) (s : ℕ) (hs : s ≤ 8) :
    iterC a b (FGat X (8 * k)) s = FGat X (8 * k + s) := by
  induction s with
  | zero => rfl
  | succ s ih =>
    show stepV (thC a b s) (iterC a b (FGat X (8 * k)) s) = stepV (rowC X (8 * k + s)) (FGat X (8 * k + s))
    rw [ih (by omega), thC_eq X a b k hk ha hb s (by omega)]

end Cert.Proof.KernelIdeal

end
-- ==== Proof.PI.Loop.lean ====
module

public import proofs.«01_k».proof.Proof.PI.Vocab
public import proofs.«01_k».proof.Proof.Gen.KernelIdeal.Frame
public import proofs.«01_k».proof.Proof.Gen.KernelIdeal.Loops
public import Idealize.ShloMosaic.Lib.WritesUnit
public import Idealize.ShloMosaic.Lib.VecWindow
public import Idealize.ShloMosaic.Lib.WholeRead

@[expose] public section

set_option maxRecDepth 16384

noncomputable section

namespace Cert.Proof.KernelIdeal

open Cert.KernelIdeal Cert.KernelIdeal.Gen
open Idealize.ShloMosaic.Pointwise
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU (nD : Nat) (τ : Topo) : Type := UR sig nD τ
abbrev 𝒱₀ : Variants := Variants.none
local notation "𝕄" => MT nD τ sig Unit (Elt F) ℕ (UR sig nD τ) ℕ

/-- The first branch of a trip is taken exactly in the first half of the trips. -/
theorem cond1_iff : ∀ k : Fin k0_t1_loop.trips, k0_cond1 k = 1#1 ↔ k.val < 256 := by decide +kernel
/-- The second branch of a trip is taken exactly in the second half of the trips. -/
theorem cond2_iff : ∀ k : Fin k0_t1_loop.trips, k0_cond2 k = 1#1 ↔ ¬ k.val < 256 := by decide +kernel
/-- The row of the first store of the second half, in closed form. -/
theorem off5_eq : ∀ k : Fin k0_t1_loop.trips, ¬ k.val < 256 → k0_off5 k = ![k.val - 256, 0, 0] := by decide +kernel

/-- What the slab store holds before trip `k`: a row for every step taken in the first half. -/
def Stored5 (X : S4096x64.Idx → F .f32) (k : ℕ) (x : S2048x32x128.Idx → F .f32) : Prop :=
  ∀ i, (i 0).val < 8 * k → x i = slabV (FGat X (i 0).val) (ix2 (i 1) (i 2))
/-- What the first marginal store holds before trip `k`: the combined values of the second half's steps, in order. -/
def Stored6 (X : S4096x64.Idx → F .f32) (k : ℕ) (x : S256x8x128.Idx → F .f32) : Prop :=
  ∀ i, (i 0).val + 256 < k → x i = combV X (2048 + 8 * (i 0).val + (i 1).val) (ix2 0 (i 2))
/-- What the second marginal store holds before trip `k`: the same values from the last row down. -/
def Stored7 (X : S4096x64.Idx → F .f32) (k : ℕ) (x : S256x8x128.Idx → F .f32) : Prop :=
  ∀ i, 512 ≤ k + (i 0).val → x i = combV X (4095 - (8 * (i 0).val + (i 1).val)) (ix2 0 (i 2))

/-- A block of eight rows of the scores, loaded at a row offset. -/
theorem row_read (v : View sig .tc .vmem S4096x64 .f32) (f : v.ty.Contents (Elt F)) (off : Fin 2 → ℕ)
    (inb : ∀ a, off a + S8x64.size a ≤ S4096x64.size a) {o : ℕ} (ho : off = ![o, 0]) (s : Fin 8) (j : Fin 64) (r : Fin 4096) (hr : r.val = o + s.val) :
    v.readAt (Elt F) (Rect.unit (s := S4096x64) off S8x64.size inb).toLoadRect f (ix2 s j) = v.read (Elt F) f (ix2 r j) := by
  subst ho
  rw [View.readAt_apply]
  congr 1
  funext a
  match a with
  | ⟨0, _⟩ => exact Fin.ext ((Rect.idx_unit_val _ _ inb _ _).trans hr.symm)
  | ⟨1, _⟩ => exact Fin.ext ((Rect.idx_unit_val _ _ inb _ _).trans (Nat.zero_add _))

/-- Eight slabs written at rows `8 k` to `8 k + 7` read back: the slab of the row inside, what was there outside. -/
theorem read_slabs (v : View sig .tc .vmem S2048x32x128 .f32) (f : v.ty.Contents (Elt F)) (k : Fin k0_t1_loop.trips) (h1 : k0_cond1 k = 1#1)
    (A : ℕ → FVec F S32x128 .f32) (i : S2048x32x128.Idx) :
    v.read (Elt F) (v.writes (Elt F) f
      [⟨Rect.unit (k0_off3 k 7#32) S1x32x128.size (k0_off3_inb k h1 7), k0_pay6 (A 7)⟩,
       ⟨Rect.unit (k0_off3 k 6#32) S1x32x128.size (k0_off3_inb k h1 6), k0_pay6 (A 6)⟩,
       ⟨Rect.unit (k0_off3 k 5#32) S1x32x128.size (k0_off3_inb k h1 5), k0_pay6 (A 5)⟩,
       ⟨Rect.unit (k0_off3 k 4#32) S1x32x128.size (k0_off3_inb k h1 4), k0_pay6 (A 4)⟩,
       ⟨Rect.unit (k0_off3 k 3#32) S1x32x128.size (k0_off3_inb k h1 3), k0_pay6 (A 3)⟩,
       ⟨Rect.unit (k0_off3 k 2#32) S1x32x128.size (k0_off3_inb k h1 2), k0_pay6 (A 2)⟩,
       ⟨Rect.unit (k0_off3 k 1#32) S1x32x128.size (k0_off3_inb k h1 1), k0_pay6 (A 1)⟩,
       ⟨Rect.unit (k0_off3 k 0#32) S1x32x128.size (k0_off3_inb k h1 0), k0_pay6 (A 0)⟩]) i
      = if 8 * k.val ≤ (i 0).val ∧ (i 0).val < 8 * k.val + 8 then A ((i 0).val - 8 * k.val) (ix2 (i 1) (i 2)) else v.read (Elt F) f i := by
  have one : ∀ (s : ℕ) (o : Fin 3 → ℕ) (inb : ∀ a, o a + S1x32x128.size a ≤ S2048x32x128.size a) (L : List (View.Piece (Elt F) S2048x32x128 .f32)),
      o = ![8 * k.val + s, 0, 0] →
      v.read (Elt F) (v.writes (Elt F) f ((⟨Rect.unit o S1x32x128.size inb, k0_pay6 (A s)⟩ : View.Piece (Elt F) S2048x32x128 .f32) :: L)) i
        = if (i 0).val = 8 * k.val + s then A s (ix2 (i 1) (i 2)) else v.read (Elt F) (v.writes (Elt F) f L) i := by
    intro s o inb L ho
    split
    · rename_i h
      refine (View.read_writes_cons_unit_of_mem v f inb _ L i (ix3 0 (i 1) (i 2)) ho ?_).trans (pay6_apply _ _)
      intro a
      match a with
      | ⟨0, _⟩ => exact h
      | ⟨1, _⟩ => exact (Nat.zero_add _).symm
      | ⟨2, _⟩ => exact (Nat.zero_add _).symm
    · rename_i h
      refine View.read_writes_cons_unit_of_not_mem v f inb _ L i ho 0 ?_
      show (i 0).val < 8 * k.val + s ∨ 8 * k.val + s + 1 ≤ (i 0).val
      omega
  rw [one 7 (k0_off3 k 7#32) _ _ (k0_off3_eq k 7), one 6 (k0_off3 k 6#32) _ _ (k0_off3_eq k 6), one 5 (k0_off3 k 5#32) _ _ (k0_off3_eq k 5), one 4 (k0_off3 k 4#32) _ _ (k0_off3_eq k 4),
    one 3 (k0_off3 k 3#32) _ _ (k0_off3_eq k 3), one 2 (k0_off3 k 2#32) _ _ (k0_off3_eq k 2), one 1 (k0_off3 k 1#32) _ _ (k0_off3_eq k 1), one 0 (k0_off3 k 0#32) _ _ (k0_off3_eq k 0), View.writes_nil]
  split_ifs with a7 a a6 a a5 a a4 a a3 a a2 a a1 a a0 a a <;> first | omega | rfl | (rw [show (i 0).val - 8 * k.val = _ from Nat.sub_eq_of_eq_add' ‹_›])

/-- A first-half trip: the slab store gains the trip's eight rows, and the state moves on by eight steps. -/
theorem trip_lo (c : Dev nD) (arg0 : Memref sig .tc .vmem S4096x64 .f32) (harg0 : arg0.IsWhole) (arg1 : Memref sig .tc .vmem S64x4096 .f32) (harg1 : arg1.IsWhole) (arg2 : Memref sig .tc .vmem S64x4096 .f32) (harg2 : arg2.IsWhole) (arg3 : Memref sig .tc .vmem S4096x64 .f32) (harg3 : arg3.IsWhole) (arg4 : Memref sig .tc .vmem S64x4096 .f32) (harg4 : arg4.IsWhole) (arg5 : Memref sig .tc .vmem S2048x32x128 .f32) (harg5 : arg5.IsWhole) (arg6 : Memref sig .tc .vmem S256x8x128 .f32) (harg6 : arg6.IsWhole) (arg7 : Memref sig .tc .vmem S256x8x128 .f32) (harg7 : arg7.IsWhole) (arg8 : Memref sig .tc .vmem S64x4096 .f32) (harg8 : arg8.IsWhole) (k : Fin k0_t1_loop.trips) (acc : FVec F S33x128 .f32)
   (hk : k.val < 256) (f0 : BufTy.Contents (Elt F) arg0.view.ty) (f5 : BufTy.Contents (Elt F) arg5.view.ty)
   (hacc : acc = FGat (arg0.view.read (Elt F) f0) (8 * k.val)) (h5 : Stored5 (arg0.view.read (Elt F) f0) k.val (arg5.view.read (Elt F) f5)) :
   iprop((arg0.view.loc (c : Thread nD τ) ↦[arg0.view.set]{fullShare} f0) ∗ (arg5.view.loc (c : Thread nD τ) ↦[arg5.view.set]{fullShare} f5))
   ⊢ (wp frame (wpE (defs₀ (F := F)) 𝒱₀ (c : Thread nD τ) none) Set.univ (k0_t1_body (F := F) arg0 harg0 arg1 harg1 arg2 harg2 arg3 harg3 arg4 harg4 arg5 harg5 arg6 harg6 arg7 harg7 arg8 harg8 k acc)
      (fun r => iprop((arg0.view.loc (c : Thread nD τ) ↦[arg0.view.set]{fullShare} f0)
        ∗ (∃ f, (arg5.view.loc (c : Thread nD τ) ↦[arg5.view.set]{fullShare} f) ∗ ⌜Stored5 (arg0.view.read (Elt F) f0) (k.val + 1) (arg5.view.read (Elt F) f)⌝)
        ∗ ⌜r = FGat (arg0.view.read (Elt F) f0) (8 * (k.val + 1))⌝)) : sProp 𝕄) := by
  have h1 : k0_cond1 k = 1#1 := (cond1_iff k).2 hk
  have h2 : ¬ k0_cond2 k = 1#1 := fun h => (cond2_iff k).1 h hk
  have hit := iterC_eq (arg0.view.read (Elt F) f0)
    (arg0.view.readAt (Elt F) (Rect.unit (s := S4096x64) (k0_off1 k) S8x64.size (k0_off1_inb k)).toLoadRect f0)
    (arg0.view.readAt (Elt F) (Rect.unit (s := S4096x64) (k0_off2 k) S8x64.size (k0_off2_inb k)).toLoadRect f0) k.val (by omega)
    (fun s j => row_read arg0.view f0 _ _ (k0_off1_eq k) s j _ rfl) (fun s j => row_read arg0.view f0 _ _ (k0_off2_eq k) s j _ rfl)
  rw [← hacc] at hit
  unfold k0_t1_body
  iintro ⟨H0, H5⟩
  sl_exec
  sl_step
  isplitl [H0]; · iexact H0
  isplitl [H5]
  · iexists _; isplitl [H5]; · iexact H5
    ipureintro
    intro i hi
    refine (read_slabs arg5.view f5 k h1 (fun s => slabV (iterC _ _ acc s)) i).trans ?_
    split
    · rename_i hin
      show slabV (iterC _ _ acc ((i 0).val - 8 * k.val)) _ = _
      rw [hit _ (by omega), show 8 * k.val + ((i 0).val - 8 * k.val) = (i 0).val by omega]
    · exact h5 i (by omega)
  · ipureintro
    exact hit 8 (le_refl 8)

/-- A stored slab, loaded at its row. -/
theorem slab_read (v : View sig .tc .vmem S2048x32x128 .f32) (f : v.ty.Contents (Elt F)) (off : Fin 3 → ℕ)
    (inb : ∀ a, off a + S1x32x128.size a ≤ S2048x32x128.size a) {o : ℕ} (ho : off = ![o, 0, 0]) (X : S4096x64.Idx → F .f32) (k : ℕ)
    (h5 : Stored5 X k (v.read (Elt F) f)) (hok : o < 8 * k) :
    v.readAt (Elt F) (Rect.unit (s := S2048x32x128) off S1x32x128.size inb).toLoadRect f = k0_pay6 (slabV (FGat X o)) := by
  subst ho
  funext i
  have ho' : o < 2048 := by have := inb 0; change o + 1 ≤ 2048 at this; omega
  have hi : (Rect.unit (s := S2048x32x128) ![o, 0, 0] S1x32x128.size inb).toLoadRect.idx i = ix3 ⟨o, ho'⟩ (i 1) (i 2) := by
    funext a
    match a with
    | ⟨0, _⟩ => exact Fin.ext ((Rect.idx_unit_val _ _ inb _ _).trans (by have := (i 0).isLt; change (i 0).val < 1 at this; show o + (i 0).val = o; omega))
    | ⟨1, _⟩ => exact Fin.ext ((Rect.idx_unit_val _ _ inb _ _).trans (Nat.zero_add _))
    | ⟨2, _⟩ => exact Fin.ext ((Rect.idx_unit_val _ _ inb _ _).trans (Nat.zero_add _))
  exact (congrArg (v.read (Elt F) f) hi).trans ((h5 _ hok).trans (pay6_apply _ _).symm)

/-- One row of eight written over a store of rows, read back: the new row inside, what was there outside. -/
theorem read_row (v : View sig .tc .vmem S256x8x128 .f32) (f : v.ty.Contents (Elt F)) (off : Fin 3 → ℕ)
    (inb : ∀ a, off a + S1x8x128.size a ≤ S256x8x128.size a) {o : ℕ} (ho : off = ![o, 0, 0]) (w : FVec F S8x128 .f32) (i : S256x8x128.Idx) :
    v.read (Elt F) (v.writes (Elt F) f [⟨Rect.unit off S1x8x128.size inb, k0_pay61 w⟩]) i
      = if (i 0).val = o then w (ix2 (i 1) (i 2)) else v.read (Elt F) f i := by
  split
  · rename_i h
    refine (View.read_writes_cons_unit_of_mem v f inb _ [] i (ix3 0 (i 1) (i 2)) ho ?_).trans (pay61_apply _ _)
    intro a
    match a with
    | ⟨0, _⟩ => exact h
    | ⟨1, _⟩ => exact (Nat.zero_add _).symm
    | ⟨2, _⟩ => exact (Nat.zero_add _).symm
  · rename_i h
    refine (View.read_writes_cons_unit_of_not_mem v f inb _ [] i ho 0 ?_)
    show (i 0).val < o ∨ o + 1 ≤ (i 0).val
    omega

/-- The combined value of the step `s` of a trip, from the stored slab of its mirror step. -/
def combC (v : View sig .tc .vmem S2048x32x128 .f32) (f : v.ty.Contents (Elt F)) (k : Fin k0_t1_loop.trips) (h2 : k0_cond2 k = 1#1)
    (a b : Vec F S8x64 .f32) (A : FVec F S33x128 .f32) (s : ℕ) : FVec F S1x128 .f32 :=
  k0_pay12 (slabV (iterC a b A s)) (v.readAt (Elt F) (Rect.unit (s := S2048x32x128) (k0_off4 k (BitVec.ofNat 32 (⟨7 - s, by omega⟩ : Fin 8).val))
    S1x32x128.size (k0_off4_inb k h2 ⟨7 - s, by omega⟩)).toLoadRect f)

/-- A second-half trip: each marginal store gains the trip's row of eight, and the state moves on by eight steps. -/
theorem trip_hi (c : Dev nD) (arg0 : Memref sig .tc .vmem S4096x64 .f32) (harg0 : arg0.IsWhole) (arg1 : Memref sig .tc .vmem S64x4096 .f32) (harg1 : arg1.IsWhole) (arg2 : Memref sig .tc .vmem S64x4096 .f32) (harg2 : arg2.IsWhole) (arg3 : Memref sig .tc .vmem S4096x64 .f32) (harg3 : arg3.IsWhole) (arg4 : Memref sig .tc .vmem S64x4096 .f32) (harg4 : arg4.IsWhole) (arg5 : Memref sig .tc .vmem S2048x32x128 .f32) (harg5 : arg5.IsWhole) (arg6 : Memref sig .tc .vmem S256x8x128 .f32) (harg6 : arg6.IsWhole) (arg7 : Memref sig .tc .vmem S256x8x128 .f32) (harg7 : arg7.IsWhole) (arg8 : Memref sig .tc .vmem S64x4096 .f32) (harg8 : arg8.IsWhole) (k : Fin k0_t1_loop.trips) (acc : FVec F S33x128 .f32)
   (hk : ¬ k.val < 256) (f0 : BufTy.Contents (Elt F) arg0.view.ty) (f5 : BufTy.Contents (Elt F) arg5.view.ty)
   (f6 : BufTy.Contents (Elt F) arg6.view.ty) (f7 : BufTy.Contents (Elt F) arg7.view.ty)
   (hacc : acc = FGat (arg0.view.read (Elt F) f0) (8 * k.val)) (h5 : Stored5 (arg0.view.read (Elt F) f0) 256 (arg5.view.read (Elt F) f5))
   (h6 : Stored6 (arg0.view.read (Elt F) f0) k.val (arg6.view.read (Elt F) f6)) (h7 : Stored7 (arg0.view.read (Elt F) f0) k.val (arg7.view.read (Elt F) f7)) :
   iprop((arg0.view.loc (c : Thread nD τ) ↦[arg0.view.set]{fullShare} f0) ∗ (arg5.view.loc (c : Thread nD τ) ↦[arg5.view.set]{fullShare} f5)
     ∗ (arg6.view.loc (c : Thread nD τ) ↦[arg6.view.set]{fullShare} f6) ∗ (arg7.view.loc (c : Thread nD τ) ↦[arg7.view.set]{fullShare} f7))
   ⊢ (wp frame (wpE (defs₀ (F := F)) 𝒱₀ (c : Thread nD τ) none) Set.univ (k0_t1_body (F := F) arg0 harg0 arg1 harg1 arg2 harg2 arg3 harg3 arg4 harg4 arg5 harg5 arg6 harg6 arg7 harg7 arg8 harg8 k acc)
      (fun r => iprop((arg0.view.loc (c : Thread nD τ) ↦[arg0.view.set]{fullShare} f0)
        ∗ (arg5.view.loc (c : Thread nD τ) ↦[arg5.view.set]{fullShare} f5)
        ∗ (∃ f, (arg6.view.loc (c : Thread nD τ) ↦[arg6.view.set]{fullShare} f) ∗ ⌜Stored6 (arg0.view.read (Elt F) f0) (k.val + 1) (arg6.view.read (Elt F) f)⌝)
        ∗ (∃ f, (arg7.view.loc (c : Thread nD τ) ↦[arg7.view.set]{fullShare} f) ∗ ⌜Stored7 (arg0.view.read (Elt F) f0) (k.val + 1) (arg7.view.read (Elt F) f)⌝)
        ∗ ⌜r = FGat (arg0.view.read (Elt F) f0) (8 * (k.val + 1))⌝)) : sProp 𝕄) := by
  have h1 : ¬ k0_cond1 k = 1#1 := fun h => hk ((cond1_iff k).1 h)
  have h2 : k0_cond2 k = 1#1 := (cond2_iff k).2 hk
  have hk' : k.val < 512 := Nat.lt_of_lt_of_le k.isLt k0_t1_abs.2.1
  have hit := iterC_eq (arg0.view.read (Elt F) f0)
    (arg0.view.readAt (Elt F) (Rect.unit (s := S4096x64) (k0_off1 k) S8x64.size (k0_off1_inb k)).toLoadRect f0)
    (arg0.view.readAt (Elt F) (Rect.unit (s := S4096x64) (k0_off2 k) S8x64.size (k0_off2_inb k)).toLoadRect f0) k.val hk'
    (fun s j => row_read arg0.view f0 _ _ (k0_off1_eq k) s j _ rfl) (fun s j => row_read arg0.view f0 _ _ (k0_off2_eq k) s j _ rfl)
  rw [← hacc] at hit
  have hcomb : ∀ s, s < 8 → combC arg5.view f5 k h2
      (arg0.view.readAt (Elt F) (Rect.unit (s := S4096x64) (k0_off1 k) S8x64.size (k0_off1_inb k)).toLoadRect f0)
      (arg0.view.readAt (Elt F) (Rect.unit (s := S4096x64) (k0_off2 k) S8x64.size (k0_off2_inb k)).toLoadRect f0) acc s
      = combV (arg0.view.read (Elt F) f0) (8 * k.val + s) := by
    intro s hs
    unfold combC combV
    rw [hit s (by omega), slab_read arg5.view f5 _ _ (k0_off4_eq k ⟨7 - s, by omega⟩) _ 256 h5 (show 7 - s + 4088 - 8 * k.val < 8 * 256 by omega),
      show (⟨7 - s, by omega⟩ : Fin 8).val + 4088 - 8 * k.val = 4095 - (8 * k.val + s) by show 7 - s + 4088 - 8 * k.val = _; omega]
  unfold k0_t1_body
  iintro ⟨H0, H5, H6, H7⟩
  sl_exec
  sl_step
  isplitl [H0]; · iexact H0
  isplitl [H5]; · iexact H5
  isplitl [H6]
  · iexists _; isplitl [H6]; · iexact H6
    ipureintro
    intro i hi
    refine (read_row arg6.view f6 _ _ (off5_eq k hk) (rows8 (combC arg5.view f5 k h2 _ _ acc)) i).trans ?_
    split
    · rename_i e
      have hs : (i 1).val < 8 := (i 1).isLt
      refine (rows8_apply _ _).trans ?_
      show combC _ _ k h2 _ _ acc (i 1).val (ix2 0 (i 2)) = _
      rw [hcomb _ hs, show 8 * k.val + (i 1).val = 2048 + 8 * (i 0).val + (i 1).val by omega]
    · exact h6 i (by omega)
  isplitl [H7]
  · iexists _; isplitl [H7]; · iexact H7
    ipureintro
    intro i hi
    refine (read_row arg7.view f7 _ _ (k0_off6_eq k) (rows8 (fun s => combC arg5.view f5 k h2 _ _ acc (7 - s))) i).trans ?_
    split
    · rename_i e
      have hs : (i 1).val < 8 := (i 1).isLt
      refine (rows8_apply _ _).trans ?_
      show combC _ _ k h2 _ _ acc (7 - (i 1).val) (ix2 0 (i 2)) = _
      rw [hcomb _ (by omega), show 8 * k.val + (7 - (i 1).val) = 4095 - (8 * (i 0).val + (i 1).val) by omega]
    · exact h7 i (by omega)
  · ipureintro
    exact hit 8 (le_refl 8)

end Cert.Proof.KernelIdeal

end
-- ==== Proof.PI.Inv.lean ====
module

public import proofs.«01_k».proof.Proof.PI.Loop
public import proofs.«01_k».proof.Proof.Gen.KernelIdeal.Frame
public import proofs.«01_k».proof.Proof.Gen.KernelIdeal.Loops
public import Idealize.ShloMosaic.Lib.WritesUnit
public import Idealize.ShloMosaic.Lib.VecWindow
public import Idealize.ShloMosaic.Lib.WholeRead

@[expose] public section

set_option maxRecDepth 16384

noncomputable section

namespace Cert.Proof.KernelIdeal

open Cert.KernelIdeal Cert.KernelIdeal.Gen
open Idealize.ShloMosaic.Pointwise
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The perturbed scores after `k` rounds of selection: each round overwrites the selected entry of every row. -/
def pertAt (p : Vec F S64x4096 .f32) : ℕ → Vec F S64x4096 .f32
  | 0 => p
  | k + 1 => k0_pay5 (pertAt p k)
/-- The mask after `k` rounds of selection. -/
def maskAt (p q : Vec F S64x4096 .f32) : ℕ → Vec F S64x4096 .f32
  | 0 => q
  | k + 1 => k0_pay4 (pertAt p k) (maskAt p q k)

/-- One round of the selection loop. -/
theorem trip_sel (c : Dev nD) (arg0 : Memref sig .tc .vmem S4096x64 .f32) (harg0 : arg0.IsWhole) (arg1 : Memref sig .tc .vmem S64x4096 .f32) (harg1 : arg1.IsWhole) (arg2 : Memref sig .tc .vmem S64x4096 .f32) (harg2 : arg2.IsWhole) (arg3 : Memref sig .tc .vmem S4096x64 .f32) (harg3 : arg3.IsWhole) (arg4 : Memref sig .tc .vmem S64x4096 .f32) (harg4 : arg4.IsWhole) (arg5 : Memref sig .tc .vmem S2048x32x128 .f32) (harg5 : arg5.IsWhole) (arg6 : Memref sig .tc .vmem S256x8x128 .f32) (harg6 : arg6.IsWhole) (arg7 : Memref sig .tc .vmem S256x8x128 .f32) (harg7 : arg7.IsWhole) (arg8 : Memref sig .tc .vmem S64x4096 .f32) (harg8 : arg8.IsWhole) (k : Fin k0_t2_loop.trips) (f4 : BufTy.Contents (Elt F) arg4.view.ty) (f8 : BufTy.Contents (Elt F) arg8.view.ty)
   (p q : Vec F S64x4096 .f32) (h4 : arg4.view.read (Elt F) f4 = maskAt p q k.val) (h8 : arg8.view.read (Elt F) f8 = pertAt p k.val) :
   iprop((arg4.view.loc (c : Thread nD τ) ↦[arg4.view.set]{fullShare} f4) ∗ (arg8.view.loc (c : Thread nD τ) ↦[arg8.view.set]{fullShare} f8))
   ⊢ (wp frame (wpE (defs₀ (F := F)) 𝒱₀ (c : Thread nD τ) none) Set.univ (k0_t2_body (F := F) arg0 harg0 arg1 harg1 arg2 harg2 arg3 harg3 arg4 harg4 arg5 harg5 arg6 harg6 arg7 harg7 arg8 harg8 k PUnit.unit)
      (fun _ => iprop((∃ f, (arg4.view.loc (c : Thread nD τ) ↦[arg4.view.set]{fullShare} f) ∗ ⌜arg4.view.read (Elt F) f = maskAt p q (k.val + 1)⌝)
        ∗ (∃ f, (arg8.view.loc (c : Thread nD τ) ↦[arg8.view.set]{fullShare} f) ∗ ⌜arg8.view.read (Elt F) f = pertAt p (k.val + 1)⌝))) : sProp 𝕄) := by
  have hk : k.val < 32 := Nat.lt_of_lt_of_le k.isLt k0_t2_abs.2.1
  unfold k0_t2_body
  iintro ⟨H4, H8⟩
  sl_exec
  sl_step
  isplitl [H4]
  · iexists _; isplitl [H4]; · iexact H4
    ipureintro
    rw [View.read_writes_full, View.readAt_full, View.readAt_full, h4, h8]; rfl
  · iexists _; isplitl [H8]; · iexact H8
    ipureintro
    rw [View.read_writes_full, View.readAt_full, h8]; rfl

set_option warn.classDefReducibility false in
/-- The selection loop by its invariant: the perturbed scores and the mask after `k` rounds. -/
@[sl_loop] def loopInvSel (c : Dev nD) (arg0 : Memref sig .tc .vmem S4096x64 .f32) (harg0 : arg0.IsWhole) (arg1 : Memref sig .tc .vmem S64x4096 .f32) (harg1 : arg1.IsWhole) (arg2 : Memref sig .tc .vmem S64x4096 .f32) (harg2 : arg2.IsWhole) (arg3 : Memref sig .tc .vmem S4096x64 .f32) (harg3 : arg3.IsWhole) (arg4 : Memref sig .tc .vmem S64x4096 .f32) (harg4 : arg4.IsWhole) (arg5 : Memref sig .tc .vmem S2048x32x128 .f32) (harg5 : arg5.IsWhole) (arg6 : Memref sig .tc .vmem S256x8x128 .f32) (harg6 : arg6.IsWhole) (arg7 : Memref sig .tc .vmem S256x8x128 .f32) (harg7 : arg7.IsWhole) (arg8 : Memref sig .tc .vmem S64x4096 .f32) (harg8 : arg8.IsWhole) (p q : Vec F S64x4096 .f32) :
    LoopInvTy_k0_t2 (F := F) Unit ℕ (UR sig nD τ) ℕ 𝒱₀ c none Set.univ arg0 harg0 arg1 harg1 arg2 harg2 arg3 harg3 arg4 harg4 arg5 harg5 arg6 harg6 arg7 harg7 arg8 harg8 where
  inv k _ := iprop((∃ f, (arg4.view.loc (c : Thread nD τ) ↦[arg4.view.set]{fullShare} f) ∗ ⌜arg4.view.read (Elt F) f = maskAt p q k⌝)
        ∗ (∃ f, (arg8.view.loc (c : Thread nD τ) ↦[arg8.view.set]{fullShare} f) ∗ ⌜arg8.view.read (Elt F) f = pertAt p k⌝))
  step k acc := by
    iintro ⟨⟨%f4, H4, %h4⟩, ⟨%f8, H8, %h8⟩⟩
    iapply (trip_sel c arg0 harg0 arg1 harg1 arg2 harg2 arg3 harg3 arg4 harg4 arg5 harg5 arg6 harg6 arg7 harg7 arg8 harg8 k f4 f8 p q h4 h8)
    isplitl [H4]; · iexact H4
    iexact H8

set_option warn.classDefReducibility false in
/-- The sweep loop by its invariant: the slabs of the first half, the combined rows of the second half, and the carried state. -/
@[sl_loop] def loopInvSweep (c : Dev nD) (arg0 : Memref sig .tc .vmem S4096x64 .f32) (harg0 : arg0.IsWhole) (arg1 : Memref sig .tc .vmem S64x4096 .f32) (harg1 : arg1.IsWhole) (arg2 : Memref sig .tc .vmem S64x4096 .f32) (harg2 : arg2.IsWhole) (arg3 : Memref sig .tc .vmem S4096x64 .f32) (harg3 : arg3.IsWhole) (arg4 : Memref sig .tc .vmem S64x4096 .f32) (harg4 : arg4.IsWhole) (arg5 : Memref sig .tc .vmem S2048x32x128 .f32) (harg5 : arg5.IsWhole) (arg6 : Memref sig .tc .vmem S256x8x128 .f32) (harg6 : arg6.IsWhole) (arg7 : Memref sig .tc .vmem S256x8x128 .f32) (harg7 : arg7.IsWhole) (arg8 : Memref sig .tc .vmem S64x4096 .f32) (harg8 : arg8.IsWhole) (f0 : BufTy.Contents (Elt F) arg0.view.ty) :
    LoopInvTy_k0_t1 (F := F) Unit ℕ (UR sig nD τ) ℕ 𝒱₀ c none Set.univ arg0 harg0 arg1 harg1 arg2 harg2 arg3 harg3 arg4 harg4 arg5 harg5 arg6 harg6 arg7 harg7 arg8 harg8 (k0_pay56 (F := F)) where
  inv k acc := iprop((arg0.view.loc (c : Thread nD τ) ↦[arg0.view.set]{fullShare} f0)
        ∗ (∃ f, (arg5.view.loc (c : Thread nD τ) ↦[arg5.view.set]{fullShare} f) ∗ ⌜Stored5 (arg0.view.read (Elt F) f0) (min k 256) (arg5.view.read (Elt F) f)⌝)
        ∗ (∃ f, (arg6.view.loc (c : Thread nD τ) ↦[arg6.view.set]{fullShare} f) ∗ ⌜Stored6 (arg0.view.read (Elt F) f0) k (arg6.view.read (Elt F) f)⌝)
        ∗ (∃ f, (arg7.view.loc (c : Thread nD τ) ↦[arg7.view.set]{fullShare} f) ∗ ⌜Stored7 (arg0.view.read (Elt F) f0) k (arg7.view.read (Elt F) f)⌝)
        ∗ ⌜acc = FGat (arg0.view.read (Elt F) f0) (8 * k)⌝)
  step k acc := by
    iintro ⟨H0, ⟨%f5, H5, %h5⟩, ⟨%f6, H6, %h6⟩, ⟨%f7, H7, %h7⟩, %hacc⟩
    by_cases hk : k.val < 256
    · have e : min k.val 256 = k.val := by omega
      have e' : min (k.val + 1) 256 = k.val + 1 := by omega
      rw [e] at h5
      iapply (wp_wand_r Idealize.ShloMosaic.frame (wpE (defs₀ (F := F)) 𝒱₀ (c : Thread nD τ) none) Set.univ)
      isplitl [H0 H5]
      · iapply (trip_lo c arg0 harg0 arg1 harg1 arg2 harg2 arg3 harg3 arg4 harg4 arg5 harg5 arg6 harg6 arg7 harg7 arg8 harg8 k acc hk f0 f5 hacc h5)
        isplitl [H0]; · iexact H0
        iexact H5
      · iintro %r ⟨H0, ⟨%f5', H5, %h5'⟩, %hr⟩
        isplitl [H0]; · iexact H0
        isplitl [H5]
        · iexists f5'; isplitl [H5]; · iexact H5
          ipureintro; rw [e']; exact h5'
        isplitl [H6]
        · iexists f6; isplitl [H6]; · iexact H6
          ipureintro; intro i hi; exact h6 i (by omega)
        isplitl [H7]
        · iexists f7; isplitl [H7]; · iexact H7
          ipureintro; intro i hi
          have : (i 0).val < 256 := (i 0).isLt
          omega
        ipureintro; exact hr
    · have e : min k.val 256 = 256 := by omega
      have e' : min (k.val + 1) 256 = 256 := by omega
      rw [e] at h5
      iapply (wp_wand_r Idealize.ShloMosaic.frame (wpE (defs₀ (F := F)) 𝒱₀ (c : Thread nD τ) none) Set.univ)
      isplitl [H0 H5 H6 H7]
      · iapply (trip_hi c arg0 harg0 arg1 harg1 arg2 harg2 arg3 harg3 arg4 harg4 arg5 harg5 arg6 harg6 arg7 harg7 arg8 harg8 k acc hk f0 f5 f6 f7 hacc h5 h6 h7)
        isplitl [H0]; · iexact H0
        isplitl [H5]; · iexact H5
        isplitl [H6]; · iexact H6
        iexact H7
      · iintro %r ⟨H0, H5, H6, H7, %hr⟩
        isplitl [H0]; · iexact H0
        isplitl [H5]
        · iexists f5; isplitl [H5]; · iexact H5
          ipureintro; rw [e']; exact h5
        isplitl [H6]; · iexact H6
        isplitl [H7]; · iexact H7
        ipureintro; exact hr

end Cert.Proof.KernelIdeal

end
-- ==== Proof.PI.Body.lean ====
module

public import proofs.«01_k».proof.Proof.PI.Inv
public import Idealize.ShloMosaic.Lib.Pipeline.FrameBody
public import proofs.«01_k».proof.Proof.Gen.KernelIdeal.Frame
public import proofs.«01_k».proof.Proof.Gen.KernelIdeal.Loops
public import Idealize.ShloMosaic.Lib.WritesUnit
public import Idealize.ShloMosaic.Lib.VecWindow
public import Idealize.ShloMosaic.Lib.WholeRead

@[expose] public section

set_option maxRecDepth 16384

noncomputable section

namespace Cert.Proof.KernelIdeal

open Cert.KernelIdeal Cert.KernelIdeal.Gen
open Idealize.ShloMosaic.Pointwise
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

/-- The second marginal store after the sweep. -/
def W7 (X : S4096x64.Idx → F .f32) : Vec F S256x8x128 .f32 := fun i => combV X (4095 - (8 * (i 0).val + (i 1).val)) (ix2 0 (i 2))
/-- The first marginal store after the sweep. -/
def W6 (X : S4096x64.Idx → F .f32) : Vec F S256x8x128 .f32 := fun i => combV X (2048 + 8 * (i 0).val + (i 1).val) (ix2 0 (i 2))
/-- What the body leaves in its first output, from the scores. -/
def margV (X : Vec F S4096x64 .f32) : Vec F S4096x64 .f32 := k0_pay62 (FGat X 4096) (W7 X) (W6 X) X
/-- What the body leaves in its second output, from the scores and the noise. -/
def maskV (y z : Vec F S64x4096 .f32) : Vec F S64x4096 .f32 := maskAt (k0_pay1 y z) k0_pay2 32

/-- The body's triple: the inputs stay, the outputs end at the values above, the scratch buffers at some contents. -/
theorem kernelRun (c : Dev nD) (arg0 : Memref sig .tc .vmem S4096x64 .f32) (harg0 : arg0.IsWhole) (arg1 : Memref sig .tc .vmem S64x4096 .f32) (harg1 : arg1.IsWhole) (arg2 : Memref sig .tc .vmem S64x4096 .f32) (harg2 : arg2.IsWhole) (arg3 : Memref sig .tc .vmem S4096x64 .f32) (harg3 : arg3.IsWhole) (arg4 : Memref sig .tc .vmem S64x4096 .f32) (harg4 : arg4.IsWhole) (arg5 : Memref sig .tc .vmem S2048x32x128 .f32) (harg5 : arg5.IsWhole) (arg6 : Memref sig .tc .vmem S256x8x128 .f32) (harg6 : arg6.IsWhole) (arg7 : Memref sig .tc .vmem S256x8x128 .f32) (harg7 : arg7.IsWhole) (arg8 : Memref sig .tc .vmem S64x4096 .f32) (harg8 : arg8.IsWhole) (x : Vec F S4096x64 .f32) (y z : Vec F S64x4096 .f32) (K : PUnit → sProp 𝕄) :
    iprop(owns (c : Thread nD τ) arg0 fullShare x ∗ owns (c : Thread nD τ) arg1 fullShare y ∗ owns (c : Thread nD τ) arg2 fullShare z ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x ∗ owns (c : Thread nD τ) arg1 fullShare y ∗ owns (c : Thread nD τ) arg2 fullShare z ∗ owns (c : Thread nD τ) arg3 fullShare (margV x) ∗ owns (c : Thread nD τ) arg4 fullShare (maskV y z) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) 𝒱₀ c none) Set.univ (cc0_body arg0 harg0 arg1 harg1 arg2 harg2 arg3 harg3 arg4 harg4 arg5 harg5 arg6 harg6 arg7 harg7 arg8 harg8) K := by
  simp only [cc0_body_eq_skeleton]; unfold cc0_body_skel
  unfold owns
  iintro ⟨⟨%f0, %e0, H0⟩, ⟨%f1, %e1, H1⟩, ⟨%f2, %e2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  have s5 : Stored5 (arg0.view.read (Elt F) f0) (min 0 256) (arg5.view.read (Elt F) f5) := fun i hi => absurd hi (by omega)
  have s6 : Stored6 (arg0.view.read (Elt F) f0) 0 (arg6.view.read (Elt F) f6) := fun i hi => absurd hi (by omega)
  have s7 : Stored7 (arg0.view.read (Elt F) f0) 0 (arg7.view.read (Elt F) f7) := fun i hi => by
    have : (i 0).val < 256 := (i 0).isLt
    omega
  sl_exec
  have t1 : Scf.trips k0_t1_loop.lb k0_t1_loop.ub k0_t1_loop.st = 512 := by decide +kernel
  have t2 : Scf.trips k0_t2_loop.lb k0_t2_loop.ub k0_t2_loop.st = 32 := by decide +kernel
  have r6 : arg6.view.read (Elt F) fL1 = W6 x := by
    funext i
    rw [hL4 i (by rw [t1]; have : (i 0).val < 256 := (i 0).isLt; omega), e0]; rfl
  have r7 : arg7.view.read (Elt F) fL2 = W7 x := by
    funext i
    rw [hL6 i (by rw [t1]; omega), e0]; rfl
  have r3 : arg3.view.read (Elt F) (arg3.view.writes (Elt F) arg3.view.junk (kernelRun.sl.H3_1 c arg0 arg6 arg7 f0 fL1 fL2)) = margV x := by
    unfold kernelRun.sl.H3_1
    rw [View.read_writes_full, View.readAt_full, View.readAt_full, View.readAt_full, r6, r7, e0]
    rw [t1]; rfl
  have p8 : arg8.view.read (Elt F) (arg8.view.writes (Elt F) arg8.view.junk (kernelRun.sl.H8_1 c arg1 arg2 f1 f2)) = k0_pay1 y z := by
    unfold kernelRun.sl.H8_1
    have q1 : kernelRun.sl.r c arg1 f1 = y := (View.readAt_full _ _ _).trans e1
    rw [View.read_writes_full, View.readAt_full, q1, e2]
  have p4 : arg4.view.read (Elt F) (arg4.view.writes (Elt F) arg4.view.junk kernelRun.sl.H4_1) = k0_pay2 := by
    unfold kernelRun.sl.H4_1
    rw [View.read_writes_full]
  have r4 : arg4.view.read (Elt F) fL3 = maskV y z := by
    have h : arg4.view.read (Elt F) fL3 = maskAt (arg8.view.read (Elt F) (arg8.view.writes (Elt F) arg8.view.junk (kernelRun.sl.H8_1 c arg1 arg2 f1 f2)))
      (arg4.view.read (Elt F) (arg4.view.writes (Elt F) arg4.view.junk kernelRun.sl.H4_1)) (Scf.trips k0_t2_loop.lb k0_t2_loop.ub k0_t2_loop.st) := hL9
    rw [p8, p4, t2] at h
    exact h
  sl_step
  iapply Hk
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact r3
  isplitl [H4]
  · iexists _; isplitr; swap; · iexact H4
    ipureintro; exact r4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  · iexists _, _; isplitr; swap; · iexact H8
    ipureintro; rfl

variable (m : (ℓ : Loc nD τ sig) → Buf (Elt F) ℓ)

/-- The scratch memrefs the body is called with. -/
abbrev scr0 : Memref sig .tc .vmem S2048x32x128 .f32 := Memref.whole cc0_scratch0
abbrev scr1 : Memref sig .tc .vmem S256x8x128 .f32 := Memref.whole cc0_scratch1
abbrev scr2 : Memref sig .tc .vmem S256x8x128 .f32 := Memref.whole cc0_scratch2
abbrev scr3 : Memref sig .tc .vmem S64x4096 .f32 := Memref.whole cc0_scratch3

/-- The invariant of the region: the scratch buffers at some contents and the generator register at some state. -/
theorem PhiA0_eq (c : Dev nD) :
    (Pipeline.ΦA spec0 c : sProp 𝕄)
      = iprop(iprop((∃ d, owns (c : Thread nD τ) scr0 fullShare d) ∗ (∃ d, owns (c : Thread nD τ) scr1 fullShare d)
          ∗ (∃ d, owns (c : Thread nD τ) scr2 fullShare d) ∗ (∃ d, owns (c : Thread nD τ) scr3 fullShare d)) ∗ (∃ r, prngReg c r)) := by
  unfold Pipeline.ΦA
  rw [scopedRest0_eq]; simp only [scr0, scr1, scr2, scr3, owns_whole]; try rfl

/-- The proof data: the inputs stay at their blocks, the outputs are the values of the body. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => margV (iblk m c 0 t)
    | 4 => maskV (iblk m c 1 t) (iblk m c 2 t)
    | ⟨_ + 5, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = margV (iblk m c 0 t) := by dsimp only [dats]
theorem after_4 (c : Dev nD) (t : Fin cfg0.N) : (dats m 0 c).after 4 t = maskV (iblk m c 1 t) (iblk m c 2 t) := by dsimp only [dats]

/-- What the body is called with at the region's one point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at the region's point. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, PhiA0_eq]
  simp only [before0_0_of m (dats m 0 c) (A_eq m c 0) (after_0 m c), before0_1_of m (dats m 0 c) (A_eq m c 1) (after_1 m c),
    before0_2_of m (dats m 0 c) (A_eq m c 2) (after_2 m c), after_0, after_1, after_2, after_3, after_4]
  iintro ⟨⟨⟨HS0, HS1, HS2, HS3⟩, Hg⟩, HO, ⟨%_, H0⟩, ⟨%_, H1⟩, ⟨%_, H2⟩, ⟨%d3, H3⟩, ⟨%d4, H4⟩⟩
  iapply (kernelRun c (st0_0 t) (hstage0_0 0) (st0_1 t) (hstage0_1 0) (st0_2 t) (hstage0_2 0) (st0_3 t) (hstage0_3 0) (st0_4 t) (hstage0_4 0)
    scr0 (Memref.isWhole_whole _) scr1 (Memref.isWhole_whole _) scr2 (Memref.isWhole_whole _) scr3 (Memref.isWhole_whole _)
    (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [HO]; · iexact HO
  isplitl [H0]; · iexact H0
  isplitl [H1]; · iexact H1
  isplitl [H2]; · iexact H2
  isplitl [H3]; · iexact H3
  iexact H4

/-- The body table's row at the point is the body as the pipeline calls it. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) :
    BodyObligation (dats (F := F) m 0 c) (defs₀ (F := F)) 𝒱₀ () Set.univ := fun t => by
  rw [bigSep_W0, bigSep_W0, defs₀_row]
  exact triple_restated (sound_body m c t) rfl .rfl fun _ => .rfl

set_option maxHeartbeats 4000000 in
set_option backward.isDefEq.respectTransparency.types false in
/-- The run of the whole program: every weakly fair execution ends, the arrays at what the body left, the rest by the
    host operations, the counters at zero. -/
theorem run_main (g : Dev nD → PrngReg) :
    θ_run defs (onTc (τ := τ) (main (F := F))) ⟨m, fun _ => 0, g⟩
      (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ 𝒱₀ m g main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hin := fun _ => .rfl) (hout := fun _ => .rfl)

end Cert.Proof.KernelIdeal

end
-- ==== Proof.RI.Frame.lean ====
/- The reference's run: where every buffer ends, and that the counters end at zero. -/
module

public import proofs.«01_k».proof.Proof.Gen.ReferenceIdeal.Run
public import Idealize.ShloMosaic.Lib.Quiescent

@[expose] public section

noncomputable section

namespace Cert.Proof.Reference

open Idealize.ShloMosaic Idealize.ShloMosaic.TcCoe Idealize.ShloMosaic.StableHlo
open Idealize.SL Idealize.SL.Sem
open Cert.ReferenceIdeal Cert.ReferenceIdeal.Gen Cert.ReferenceIdeal.Value

variable {F : FTy → Type} [FloatOps F]

/-- A buffer that no operation of some stretches writes keeps its contents through them. -/
theorem afterL_keep {b : DevRef τ sig} : ∀ (l : List (List (HloOp τ sig (Elt F)))) (V : Valuation τ sig (Elt F)),
    (∀ ops ∈ l, ∀ V, after ops V b = V b) → afterL l V b = V b
  | [], _, _ => rfl
  | ops :: l, V, h => by
    rw [afterL_cons, afterL_keep l _ fun o ho => h o (List.mem_cons_of_mem _ ho), h ops List.mem_cons_self]

/-- Two trips' states agree on a buffer that neither the condition nor the body writes. -/
theorem atTrip_keep {b : DevRef τ sig} (W₀ : Dev nD → Valuation τ sig (Elt F)) (c : Dev nD)
    (hc : ∀ V, after (condOps (F := F)) V b = V b) (hb : ∀ ops ∈ bodyI (F := F), ∀ V, after ops V b = V b) :
    ∀ k, atTrip condOps bodyI W₀ k c b = W₀ c b
  | 0 => rfl
  | k + 1 => by rw [atTrip_succ, afterL_keep _ _ hb, hc, atTrip_keep W₀ c hc hb k]

/-- The condition's operations leave every buffer but their own results. -/
theorem cond_keep (r : Ref sig .tc) (h : r ∉ condOps_W) (V : Valuation τ sig (Elt F)) :
    after (condOps (F := F)) V (Proc.devRef .tc r) = V (Proc.devRef .tc r) :=
  after_of_writes_sub condOps V condOps_writes h

/-- The loop's body leaves every buffer but its own results. -/
theorem body_keep (r : Ref sig .tc) (h : r ∉ while0Ops0_W ++ while0Ops0_1_W ++ while0Ops0_2_W ++ while0Ops0_3_W) :
    ∀ ops ∈ bodyI (F := F), ∀ V : Valuation τ sig (Elt F), after ops V (Proc.devRef .tc r) = V (Proc.devRef .tc r) := by
  simp only [List.mem_append, not_or] at h
  intro ops hops V
  simp only [bodyI, List.mem_cons, List.not_mem_nil, or_false] at hops
  rcases hops with rfl | rfl | rfl | rfl
  · exact after_of_writes_sub _ V while0Ops0_writes h.1.1.1
  · exact after_of_writes_sub _ V while0Ops0_1_writes h.1.1.2
  · exact after_of_writes_sub _ V while0Ops0_2_writes h.1.2
  · exact after_of_writes_sub _ V while0Ops0_3_writes h.2

/-- A buffer that the loop does not write is, when the loop is done, as it was on entry. -/
theorem loop_keep (m : (ℓ : Loc nD τ sig) → Buf (Elt F) ℓ) (c : Dev nD) (r : Ref sig .tc)
    (h : r ∉ condOps_W ++ (while0Ops0_W ++ while0Ops0_1_W ++ while0Ops0_2_W ++ while0Ops0_3_W)) (k : ℕ) :
    after (condOps (F := F)) (atTrip condOps bodyI (entryContents preI m) k c) (Proc.devRef .tc r)
      = after hostOps0 (launchContents m c) (Proc.devRef .tc r) := by
  have h' := h
  rw [List.mem_append, not_or] at h'
  rw [cond_keep r h'.1, atTrip_keep _ c (cond_keep r h'.1) (body_keep r h'.2)]
  rfl

/-- The state after the loop: what the operations after the loop start from. -/
abbrev exitV (m : (ℓ : Loc nD τ sig) → Buf (Elt F) ℓ) (c : Dev nD) : Valuation τ sig (Elt F) :=
  after condOps (atTrip condOps bodyI (entryContents preI m) 4096 c)

set_option maxRecDepth 100000 in
/-- The argument is written by no operation after the loop. -/
theorem post_arg0 (V : Valuation τ sig (Elt F)) :
    afterL (postI (F := F)) V (Proc.devRef .tc main_arg0) = V (Proc.devRef .tc main_arg0) := by
  refine afterL_keep _ _ fun ops hops V => ?_
  simp only [postI, List.mem_cons, List.not_mem_nil, or_false] at hops
  rcases hops with rfl | rfl | rfl | rfl | rfl <;> after_reads_simp

/-- The argument ends as it was. -/
theorem final_arg0 (m : (ℓ : Loc nD τ sig) → Buf (Elt F) ℓ) (c : Dev nD) :
    finalContents condOps preI bodyI postI 4096 m c (Proc.devRef .tc main_arg0) = m (c.tc.loc main_arg0) := by
  show afterL (postI (F := F)) (exitV m c) _ = _
  rw [post_arg0]
  refine (loop_keep m c main_arg0 (by decide +kernel) 4096).trans ?_
  exact after_of_writes_sub hostOps0 _ hostOps0_writes (by decide +kernel)

/-- The reference terminates, leaves its argument as it was and every counter at zero. -/
theorem run_main [∀ e, Nonempty (Elt F e)] (m : (ℓ : Loc nD τ sig) → Buf (Elt F) ℓ) (g : Dev nD → PrngReg) :
    θ_run (defs (F := F)) (onTc (τ := τ) (main (F := F))) ⟨m, fun _ => 0, g⟩
      (fun r => (∀ (c : Dev nD) (b : Ref sig .tc), (Proc.devRef .tc b : DevRef τ sig).isScoped = false →
        r.2.mem ((c.tc : Thread nD τ).loc b) = afterL postI (exitV m c) (Proc.devRef .tc b)) ∧ r.2.sem = fun _ => 0) :=
  (θ_run defs _ _).mono (fun r h => ⟨h, sem_eq_zero_of_no_sems rfl r.2⟩) (run_fold m g)

/-- The reference's frame: it terminates, its argument unchanged and every counter at zero. -/
theorem frame [∀ e, Nonempty (Elt F e)] (m : (ℓ : Loc nD τ sig) → Buf (Elt F) ℓ) (g : Dev nD → PrngReg) :
    θ_run (defs (F := F)) (onTc (τ := τ) (main (F := F))) ⟨m, fun _ => 0, g⟩
      (fun r => (∀ c : Dev nD, r.2.mem ((c.tc : Thread nD τ).loc main_arg0) = m ((c.tc : Thread nD τ).loc main_arg0)) ∧ r.2.sem = fun _ => 0) :=
  (θ_run defs _ _).mono (fun _ h => ⟨fun c => (h.1 c main_arg0 rfl).trans (final_arg0 m c), h.2⟩) (run_main m g)

end Cert.Proof.Reference

end
-- ==== Proof.Math.lean ====
module

public import Idealize.ShloMosaic.PureOps.Ideal.Laws
public import Idealize.ShloMosaic.Lib.Pointwise

@[expose] public section

noncomputable section

namespace Cert.Proof.Math

open Idealize.ShloMosaic

/-! The extended-real mathematics both programs share: the log-add-exp step of the two sweeps and the log-sum-exp over a window. -/

/-- `log(exp a + exp b)`, as both programs write it. -/
def lae (a b : EReal) : EReal := max a b + Ideal.log1p (Ideal.exp (-(max (a - b) (-(a - b)))))

theorem exp_bot : Ideal.exp ⊥ = 0 := rfl
theorem exp_coe (r : ℝ) : Ideal.exp (r : EReal) = (Real.exp r : EReal) := rfl
theorem log_bot : Ideal.log ⊥ = ⊥ := rfl
theorem log_coe (r : ℝ) : Ideal.log (r : EReal) = if r ≤ 0 then ⊥ else (Real.log r : EReal) := rfl
theorem log_zero : Ideal.log 0 = ⊥ := (log_coe 0).trans (if_pos le_rfl)

theorem exp_le_one {y : EReal} (h : y ≤ 0) : Ideal.exp y ≤ 1 := by
  induction y with
  | bot => rw [exp_bot]; exact zero_le_one
  | top => simp at h
  | coe r =>
    have : r ≤ 0 := by exact_mod_cast h
    rw [exp_coe]
    exact_mod_cast Real.exp_le_one_iff.mpr this

theorem log_lt_top {y : EReal} (h : y < ⊤) : Ideal.log y < ⊤ := by
  induction y with
  | bot => rw [log_bot]; exact bot_lt_top
  | top => simp at h
  | coe r =>
    rw [log_coe]
    split
    · exact bot_lt_top
    · exact EReal.coe_lt_top _

theorem abs_nonneg (d : EReal) : 0 ≤ max d (-d) := by
  rcases le_total 0 d with h | h
  · exact le_max_of_le_left h
  · exact le_max_of_le_right (by simpa using EReal.neg_le_neg_iff.mpr h)

theorem lae_lt_top {a b : EReal} (ha : a < ⊤) (hb : b < ⊤) : lae a b < ⊤ := by
  unfold lae Ideal.log1p
  refine EReal.add_lt_top (max_lt ha hb).ne (log_lt_top ?_).ne
  refine EReal.add_lt_top (by decide) ?_
  refine (lt_of_le_of_lt (exp_le_one ?_) (by decide : (1 : EReal) < ⊤)).ne
  simpa using EReal.neg_le_neg_iff.mpr (abs_nonneg (a - b))

/-- The sweep's table: after `t` scores of `x`, entry `j` is the log of the `j`-th elementary symmetric sum of their exponentials. -/
def E (x : ℕ → EReal) : ℕ → ℕ → EReal
  | 0, j => if j = 0 then 0 else ⊥
  | t + 1, 0 => lae (E x t 0) ⊥
  | t + 1, j + 1 => lae (E x t (j + 1)) (E x t j + x t)

theorem E_lt_top (x : ℕ → EReal) (hx : ∀ t, x t < ⊤) (t j : ℕ) : E x t j < ⊤ := by
  induction t generalizing j with
  | zero => unfold E; split <;> decide
  | succ t ih =>
    cases j with
    | zero => exact lae_lt_top (ih 0) (by decide)
    | succ j => exact lae_lt_top (ih _) (EReal.add_lt_top (ih j).ne (hx t).ne)

theorem log_nonneg {y : EReal} (h : 1 ≤ y) : 0 ≤ Ideal.log y := by
  induction y with
  | bot => exact absurd (le_bot_iff.mp h) (by decide)
  | top => exact le_top
  | coe r =>
    have h1 : 1 ≤ r := by exact_mod_cast h
    rw [log_coe, if_neg (by linarith)]
    exact_mod_cast Real.log_nonneg h1

theorem exp_nonneg (y : EReal) : 0 ≤ Ideal.exp y := by
  induction y with
  | bot => exact le_rfl
  | top => exact le_top
  | coe r => rw [exp_coe]; exact_mod_cast (Real.exp_pos r).le

theorem max_le_lae (a b : EReal) : max a b ≤ lae a b := by
  unfold lae Ideal.log1p
  refine le_add_of_nonneg_right (log_nonneg ?_)
  exact le_add_of_nonneg_right (exp_nonneg _)

/-- Where no score is −∞, the table's entries up to the diagonal are more than −∞. -/
theorem bot_lt_E (x : ℕ → EReal) (hx : ∀ t, ⊥ < x t) (t j : ℕ) (h : j ≤ t) : ⊥ < E x t j := by
  induction t generalizing j with
  | zero => obtain rfl : j = 0 := by omega
            unfold E; simp
  | succ t ih =>
    cases j with
    | zero => exact (ih 0 (by omega)).trans_le ((le_max_left _ _).trans (max_le_lae _ _))
    | succ j => exact (EReal.bot_lt_add_iff.mpr ⟨ih j (by omega), hx t⟩).trans_le ((le_max_right _ _).trans (max_le_lae _ _))

/-- Once a score is +∞, so are the table's later entries. -/
theorem E_eq_top (x : ℕ → EReal) (hx : ∀ t, ⊥ < x t) (i : ℕ) (hi : x i = ⊤) (t j : ℕ) (ht : i < t) (h : j + 1 ≤ t) : E x t (j + 1) = ⊤ := by
  induction t generalizing j with
  | zero => omega
  | succ t ih =>
    have hr : E x t j + x t ≤ E x (t + 1) (j + 1) := (le_max_right _ _).trans (max_le_lae _ _)
    have hl : E x t (j + 1) ≤ E x (t + 1) (j + 1) := (le_max_left _ _).trans (max_le_lae _ _)
    rcases eq_or_ne t i with e | e
    · subst e
      rw [hi, EReal.add_top_of_ne_bot (bot_lt_E x hx t j (by omega)).ne'] at hr
      exact top_le_iff.mp hr
    · rcases eq_or_ne j t with e' | e'
      · subst e'
        cases j with
        | zero => omega
        | succ k =>
          rw [ih k (by omega) (by omega), EReal.top_add_of_ne_bot (hx _).ne'] at hr
          exact top_le_iff.mp hr
      · rw [ih j (by omega) (by omega)] at hl
        exact top_le_iff.mp hl

theorem E_eq_top' (x : ℕ → EReal) (hx : ∀ t, ⊥ < x t) (i : ℕ) (hi : x i = ⊤) (t j : ℕ) (ht : i < t) (h0 : 0 < j) (h : j ≤ t) : E x t j = ⊤ := by
  obtain ⟨k, rfl⟩ : ∃ k, j = k + 1 := ⟨j - 1, by omega⟩
  exact E_eq_top x hx i hi t k ht h

/-- The largest entry of a window. -/
def top {n : ℕ} (c : Fin n → EReal) : EReal := (Finset.univ : Finset (Fin n)).fold max ⊥ c

/-- `log Σ exp` of a window, about its largest entry. -/
def lse {n : ℕ} (c : Fin n → EReal) : EReal := top c + Ideal.log (∑ q, Ideal.exp (c q - top c))

theorem top_lt_top {n : ℕ} (c : Fin n → EReal) (h : ∀ q, c q < ⊤) : top c < ⊤ := by
  unfold top
  rw [Finset.fold_max_lt]
  exact ⟨bot_lt_top, fun q _ => h q⟩

theorem le_top' {n : ℕ} (c : Fin n → EReal) (q : Fin n) : c q ≤ top c := by
  unfold top
  rw [Finset.le_fold_max]
  exact Or.inr ⟨q, Finset.mem_univ q, le_rfl⟩

/-- The same sum about the largest entry where it is a real number and about zero elsewhere, with the shift added last. -/
theorem lse_guard {n : ℕ} (c : Fin n → EReal) (h : ∀ q, c q < ⊤) (a : EReal) (ha : a = if max (top c) (-(top c)) < ⊤ then top c else 0) :
    Ideal.log (∑ q, Ideal.exp (c q - a)) + a = lse c := by
  subst ha
  have ht := top_lt_top c h
  unfold lse
  rcases eq_or_ne (top c) ⊥ with hb | hb
  · have hc : ∀ q, c q = ⊥ := fun q => le_bot_iff.mp (hb ▸ le_top' c q)
    simp [hb, hc, exp_bot, log_zero]
  · have : max (top c) (-(top c)) < ⊤ := by
      refine max_lt ht ?_
      rw [lt_top_iff_ne_top]; intro h'; exact hb (by rw [← neg_neg (top c), h']; rfl)
    rw [if_pos this, add_comm]

/-- One marginal: the score, the log-sum-exp of the two sweeps' tables around it, less the whole table's last entry. -/
def marg (x y : ℕ → EReal) (n : ℕ) : EReal :=
  Ideal.exp (x n + lse (fun q : Fin 32 => E x n q.val + E y (4095 - n) (31 - q.val)) - E x 4096 32)

end Cert.Proof.Math
-- ==== Proof.PI.Value.lean ====
module

public import proofs.«01_k».proof.Proof.Math
public import proofs.«01_k».proof.Proof.PI.Body

@[expose] public section
set_option maxRecDepth 16384
noncomputable section
namespace Cert.Proof.KernelIdeal
open Cert.KernelIdeal Cert.KernelIdeal.Gen
open Idealize.ShloMosaic Idealize.ShloMosaic.Pointwise
open Cert.Proof.Math

/-! What the kernel's vector operations compute on extended reals, entry by entry. -/

theorem neg_named : (Named.named κ "neg" 0xF149F2CA#32 : Ideal .f32) = ⊥ := rfl

theorem sel_slt {α : Type} (a b : ℕ) (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat ha hb]; by_cases h : a < b <;> simp [h, Scalar.select]

theorem sel_eq {α : Type} (a b : ℕ) (ha : a < 2 ^ 32) (hb : b < 2 ^ 32) (x y : α) :
    Scalar.select (IntOp.cmpi .eq (BitVec.ofNat 32 a) (BitVec.ofNat 32 b)) x y = if a = b then x else y := by
  rw [WordCmp.cmpi_eq_ofNat ha hb]; by_cases h : a = b <;> simp [h, Scalar.select]

theorem init_at (j : Fin 33) (l : Fin 128) : (k0_pay56 : FVec Ideal S33x128 .f32) (ix2 j l) = if l.val < 64 then (if j.val = 0 then 0 else ⊥) else (if j.val = 32 then 0 else ⊥) := by
  pointwise [k0_pay56, k0_pay54]
  rw [sel_slt _ _ (by omega) (by omega), sel_eq _ _ (by omega) (by omega), sel_eq _ _ (by omega) (by omega), neg_named]

theorem step_at (th : FVec Ideal S1x128 .f32) (A : FVec Ideal S33x128 .f32) (j : Fin 33) (l : Fin 128) :
    stepV th A (ix2 j l) = lae (A (ix2 j l)) ((if l.val < 64 then (if h : j.val < 1 then ⊥ else A (ix2 ⟨j.val - 1, by omega⟩ l)) else (if h : j.val < 32 then A (ix2 ⟨1 + j.val, by omega⟩ l) else ⊥)) + th (ix2 0 l)) := by
  pointwise [stepV, k0_pay57, k0_pay54, k0_pay53]
  rw [sel_slt _ _ (by omega) (by omega), neg_named, zero_sub]
  rfl

theorem ix2_ext {m n : ℕ} {i i' : Fin m} {j j' : Fin n} (hi : i.val = i'.val) (hj : j.val = j'.val) : ix2 i j = ix2 i' j' := by
  rw [Fin.ext hi, Fin.ext hj]

/-- Column `r` of the scores read downwards. -/
def col (X : S4096x64.Idx → EReal) (r : Fin 64) (t : ℕ) : EReal := X (ix2 ⟨t % 4096, Nat.mod_lt _ (by decide)⟩ r)
/-- Column `r` of the scores read upwards. -/
def rev (X : S4096x64.Idx → EReal) (r : Fin 64) (t : ℕ) : EReal := X (ix2 ⟨4095 - t % 4096, by omega⟩ r)

/-- The sweeps' state: the forward lanes hold the table of the column read downwards, the backward lanes that of the column read
    upwards with its entries in the opposite order. -/
theorem FGat_at (X : S4096x64.Idx → EReal) (t : ℕ) (j : Fin 33) (l : Fin 128) :
    FGat (F := Ideal) X t (ix2 j l) = if h : l.val < 64 then E (col X ⟨l.val, h⟩) t j.val else E (rev X ⟨l.val - 64, by omega⟩) t (32 - j.val) := by
  induction t generalizing j with
  | zero =>
    rw [FGat, init_at]
    unfold E
    split
    · rfl
    · congr 1
      exact propext (by omega)
  | succ t ih =>
    rw [FGat, step_at, ih]
    by_cases h : l.val < 64
    · have hr : rowC (F := Ideal) X t (ix2 0 l) = col X ⟨l.val, h⟩ t := dif_pos h
      rw [hr]
      simp only [h, if_true, dif_pos]
      obtain ⟨j, hj⟩ := j
      cases j with
      | zero => simp [E]
      | succ j =>
        rw [dif_neg (by simp), ih, dif_pos h]
        rfl
    · have hr : rowC (F := Ideal) X t (ix2 0 l) = rev X ⟨l.val - 64, by omega⟩ t := dif_neg h
      rw [hr]
      simp only [h, if_false, dif_neg, not_false_eq_true]
      obtain ⟨j, hj⟩ := j
      by_cases hj' : j = 32
      · subst hj'; simp [E]
      · have : 32 - j = (31 - j) + 1 := by omega
        rw [dif_pos (by simp; omega), ih, dif_neg h, this]
        have e : 32 - (1 + j) = 31 - j := by omega
        simp only [e]
        rfl

theorem slab_at (A : FVec Ideal S33x128 .f32) (q : Fin 32) (l : Fin 128) :
    slabV A (ix2 q l) = if l.val < 64 then A (ix2 ⟨q.val, by omega⟩ l) else A (ix2 ⟨1 + q.val, by omega⟩ l) := by
  pointwise [slabV, k0_pay29, k0_pay55, k0_pay54]
  rw [sel_slt _ _ (by omega) (by omega)]

theorem ofBits_neg_inf : Ideal.ofBits FTy.f32 0xFF800000#32 = ⊥ := by
  first | rfl | decide | simp [Ideal.ofBits]

theorem comb_at (a b : FVec Ideal S32x128 .f32) (l : Fin 128) :
    k0_pay12 a (k0_pay6 b) (ix2 0 l) = lse fun q : Fin 32 => b (ix2 q l) + (if h : l.val < 64 then a (ix2 q ⟨64 + l.val, by omega⟩) else a (ix2 q ⟨l.val - 64, by omega⟩)) := by
  pointwise [k0_pay12, k0_pay6]
  rw [ofBits_neg_inf]
  rfl

/-- The combined value of step `t` on a forward lane: the window of row `4095 - t`. -/
theorem combV_fwd (X : S4096x64.Idx → EReal) (t : ℕ) (r : Fin 64) :
    combV (F := Ideal) X t (ix2 0 ⟨r.val, by omega⟩) = lse fun q : Fin 32 => E (col X r) (4095 - t) q.val + E (rev X r) t (31 - q.val) := by
  rw [combV, comb_at]
  congr 1
  funext q
  rw [slab_at, if_pos (by simp), dif_pos (by simp), slab_at, if_neg (by simp), FGat_at, FGat_at, dif_pos (by simp), dif_neg (by simp)]
  congr 2
  · congr 1; ext; simp
  · simp; omega

theorem combV_bwd (X : S4096x64.Idx → EReal) (t : ℕ) (r : Fin 64) :
    combV (F := Ideal) X t (ix2 0 ⟨64 + r.val, by omega⟩) = lse fun q : Fin 32 => E (col X r) t q.val + E (rev X r) (4095 - t) (31 - q.val) := by
  rw [combV, comb_at]
  congr 1
  funext q
  rw [slab_at, if_neg (by simp), dif_neg (by simp), slab_at, if_pos (by simp), FGat_at, FGat_at, dif_neg (by simp), dif_pos (by simp), add_comm]
  congr 2
  · congr 1; ext; simp
  · congr 1; ext; simp
  · simp; omega

theorem last_at (X : S4096x64.Idx → EReal) (r : Fin 64) : FGat (F := Ideal) X 4096 (ix2 32 ⟨r.val, by omega⟩) = E (col X r) 4096 32 := by
  generalize 4096 = t
  rw [FGat_at, dif_pos (by simp)]
  rfl

theorem W7_at (X : S4096x64.Idx → EReal) (a : Fin 256) (b : Fin 8) (l : Fin 128) :
    W7 (F := Ideal) X (ix3 a b l) = combV (F := Ideal) X (4095 - (8 * a.val + b.val)) (ix2 0 l) := rfl
theorem W6_at (X : S4096x64.Idx → EReal) (a : Fin 256) (b : Fin 8) (l : Fin 128) :
    W6 (F := Ideal) X (ix3 a b l) = combV (F := Ideal) X (2048 + 8 * a.val + b.val) (ix2 0 l) := rfl

theorem margV_at (X : S4096x64.Idx → EReal) (n : Fin 4096) (r : Fin 64) :
    margV (F := Ideal) X (ix2 n r) = marg (col X r) (rev X r) n.val := by
  pointwise [margV, k0_pay62]
  rw [last_at]
  have hx : X (ix2 n r) = col X r n.val := by unfold col; exact congrArg X (ix2_ext (Nat.mod_eq_of_lt n.isLt).symm rfl)
  rw [hx, marg]
  generalize E (col X r) 4096 32 = z
  refine congrArg (fun d => Ideal.exp (col X r n.val + d - z)) ?_
  by_cases h : n.val < 2048
  · rw [dif_pos h, W7_at]
    have e := combV_fwd X (4095 - n.val) r
    have e1 : 4095 - (4095 - n.val) = n.val := by omega
    rw [e1] at e
    rw [← e]
    exact congrArg (fun t => combV (F := Ideal) X t _) (by dsimp only; omega)
  · rw [dif_neg h, W6_at, ← combV_bwd X n.val r]
    exact congrArg (fun t => combV (F := Ideal) X t _) (by dsimp only; omega)

end Cert.Proof.KernelIdeal
-- ==== Proof.Pick.lean ====
/-
  The pure part of the mask: sorting a row in descending order, ties by place, and taking the places one after
  another is the same as taking, round after round, the first place where what is left of the row is largest.
-/
module

public import Idealize.ShloMosaic.Lib.SortFacts
public import Mathlib.Data.EReal.Basic

@[expose] public section
noncomputable section

namespace Cert.Proof.Pick

open Idealize.ShloMosaic

variable {n : Nat}

/-- The order the sort is given: larger first. -/
def before (p : Fin n → EReal) (k k' : Fin n) : Bool := decide (p k' < p k)

/-- The same order with ties broken by place. -/
def ranked (p : Fin n → EReal) (k k' : Fin n) : Bool := decide (p k' < p k ∨ (p k = p k' ∧ k < k'))

/-- On places listed in ascending order the stable sort breaks ties by place. -/
theorem stable_ranked (p : Fin n → EReal) (l : List (Fin n)) (hl : l.Pairwise (· < ·)) :
    stableSort (before p) l = stableSort (ranked p) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    have : ¬ b < a := not_lt.mpr hab.le
    simp [before, ranked, this]

theorem ranked_total (p : Fin n → EReal) (a b : Fin n) (h : ranked p b a = false) : a = b ∨ ranked p a b = true := by
  simp only [ranked, decide_eq_false_iff_not, decide_eq_true_eq, not_or, not_and, not_lt] at *
  obtain ⟨h1, h2⟩ := h
  rcases lt_or_eq_of_le h1 with h3 | h3
  · exact .inr (.inl h3)
  · rcases lt_or_eq_of_le (h2 h3) with h4 | h4
    · exact .inr (.inr ⟨h3.symm, h4⟩)
    · exact .inl h4

theorem ranked_asymm (p : Fin n → EReal) (a b : Fin n) (h : ranked p a b = true) : ranked p b a = false := by
  simp only [ranked, decide_eq_false_iff_not, decide_eq_true_eq, not_or, not_and, not_lt] at *
  rcases h with h | ⟨h, h'⟩
  · exact ⟨h.le, fun e => absurd e h.ne⟩
  · exact ⟨h.ge, fun _ => h'.le⟩

theorem ranked_trans (p : Fin n → EReal) (a b c : Fin n) (h : ranked p a b = true) (h' : ranked p b c = true) :
    ranked p a c = true := by
  simp only [ranked, decide_eq_true_eq] at *
  rcases h with h | ⟨h, g⟩ <;> rcases h' with h' | ⟨h', g'⟩
  · exact .inl (h'.trans h)
  · exact .inl (h' ▸ h)
  · exact .inl (h ▸ h')
  · exact .inr ⟨h.trans h', g.trans g'⟩

theorem ranked_negTrans (p : Fin n → EReal) (a b c : Fin n) (h : ranked p a b = false) (h' : ranked p b c = false) :
    ranked p a c = false := by
  rcases ranked_total p b a h with rfl | h
  · exact h'
  · rcases ranked_total p c b h' with rfl | h'
    · exact ranked_asymm p _ _ h
    · exact ranked_asymm p _ _ (ranked_trans p _ _ _ h' h)

/-- An earlier place of the sorted row holds a larger entry, or an equal one that stood further left. -/
theorem sorted_lt (p : Fin n → EReal) (i j : Fin n) (hij : i < j) :
    p (sortedFrom (before p) j) < p (sortedFrom (before p) i) ∨
      (p (sortedFrom (before p) i) = p (sortedFrom (before p) j) ∧
        sortedFrom (before p) i < sortedFrom (before p) j) := by
  have e : sortedFrom (before p) = sortedFrom (ranked p) := by
    funext k
    unfold sortedFrom
    rw [List.get_of_eq (show sortPositions n (before p) = sortPositions n (ranked p) from
      stable_ranked p _ (List.pairwise_lt_finRange n))]
    rfl
  rw [e]
  have h := sortedFrom_noInversion (ranked p) (ranked p) (ranked_asymm p) (fun _ _ h => h) (ranked_negTrans p) i j hij
  rcases ranked_total p _ _ h with h | h
  · exact absurd (sortedFrom_injective _ h) hij.ne
  · simpa only [ranked, decide_eq_true_eq] using h

/-- Place `j` is among the first `k` of the sorted row. -/
def taken (p : Fin n → EReal) (k : Nat) (j : Fin n) : Prop := ∃ i : Fin n, i.val < k ∧ sortedFrom (before p) i = j

open Classical in
/-- What is left of the row when the first `k` places of the sorted row are struck out. -/
def left (p : Fin n → EReal) (k : Nat) (j : Fin n) : EReal := if taken p k j then ⊥ else p j

/-- `j` is the first place where `q` is largest. -/
def firstMax (q : Fin n → EReal) (j : Fin n) : Prop := (∀ j', q j' ≤ q j) ∧ ∀ j', q j' = q j → j ≤ j'

theorem firstMax_unique (q : Fin n → EReal) {i j : Fin n} (hi : firstMax q i) (hj : firstMax q j) : i = j :=
  le_antisymm (hi.2 j (le_antisymm (hi.1 j) (hj.1 i))) (hj.2 i (le_antisymm (hj.1 i) (hi.1 j)))

theorem taken_zero (p : Fin n → EReal) (j : Fin n) : ¬ taken p 0 j := fun ⟨_, h, _⟩ => absurd h (Nat.not_lt_zero _)

theorem taken_succ (p : Fin n → EReal) (k : Fin n) (j : Fin n) :
    taken p (k.val + 1) j ↔ j = sortedFrom (before p) k ∨ taken p k.val j := by
  constructor
  · rintro ⟨i, hi, rfl⟩
    rcases lt_or_eq_of_le (Nat.le_of_lt_succ hi) with h | h
    · exact .inr ⟨i, h, rfl⟩
    · exact .inl (by rw [Fin.ext h])
  · rintro (rfl | ⟨i, hi, rfl⟩)
    · exact ⟨k, Nat.lt_succ_self _, rfl⟩
    · exact ⟨i, Nat.lt_succ_of_lt hi, rfl⟩

/-- The next place of the sorted row is the first one where what is left is largest. -/
theorem firstMax_left (p : Fin n → EReal) (hp : ∀ j, ⊥ < p j) (k : Fin n) :
    firstMax (left p k.val) (sortedFrom (before p) k) := by
  have hk : ¬ taken p k.val (sortedFrom (before p) k) := by
    rintro ⟨i, hi, e⟩
    rw [sortedFrom_injective _ e] at hi
    exact lt_irrefl _ hi
  have main : ∀ j', left p k.val j' ≤ p (sortedFrom (before p) k) ∧
      (left p k.val j' = p (sortedFrom (before p) k) → sortedFrom (before p) k ≤ j') := by
    intro j'
    by_cases h : taken p k.val j'
    · rw [left, if_pos h]
      exact ⟨bot_le, fun e => absurd e (hp _).ne⟩
    · rw [left, if_neg h]
      obtain ⟨i, rfl⟩ := sortedFrom_surjective (before p) j'
      rcases lt_trichotomy i k with hik | rfl | hik
      · exact absurd ⟨i, hik, rfl⟩ h
      · exact ⟨le_rfl, fun _ => le_rfl⟩
      · rcases sorted_lt p k i hik with g | ⟨g, g'⟩
        · exact ⟨g.le, fun e => absurd e g.ne⟩
        · exact ⟨g.ge, fun _ => g'.le⟩
  have e : left p k.val (sortedFrom (before p) k) = p (sortedFrom (before p) k) := by rw [left, if_neg hk]
  unfold firstMax
  rw [e]
  exact ⟨fun j' => (main j').1, fun j' => (main j').2⟩

/-- A place is the first where what is left is largest exactly when it is the next of the sorted row. -/
theorem firstMax_iff (p : Fin n → EReal) (hp : ∀ j, ⊥ < p j) (k j : Fin n) :
    firstMax (left p k.val) j ↔ j = sortedFrom (before p) k :=
  ⟨fun h => firstMax_unique _ h (firstMax_left p hp k), fun h => h ▸ firstMax_left p hp k⟩

end Cert.Proof.Pick
-- ==== Proof.PI.Mask.lean ====
module

public import proofs.«01_k».proof.Proof.PI.Value
public import proofs.«01_k».proof.Proof.Pick
public import Idealize.ShloMosaic.Lib.WordArith
public import Idealize.ShloMosaic.Lib.IdealHost

@[expose] public section
set_option maxRecDepth 16384
noncomputable section
namespace Cert.Proof.KernelIdeal
open Cert.KernelIdeal Cert.KernelIdeal.Gen
open Idealize.ShloMosaic Idealize.ShloMosaic.Pointwise
open Cert.Proof.Pick

/-! The mask the kernel builds: round after round it marks the first place where what is left of the row is
largest, so after 32 rounds the marked places are the first 32 of the sorted row. -/

/-- The signed minimum of words that are all small is the minimum of their numbers. -/
theorem fold_minsi {ι : Type} [DecidableEq ι] (S : Finset ι) (f : ι → BitVec 32) (hf : ∀ x, (f x).toNat < 2 ^ 31) :
    (S.fold IntOp.minsi 2147483647#32 f).toNat = S.fold min 2147483647 (fun x => (f x).toNat) := by
  have key : (S.fold IntOp.minsi 2147483647#32 f).toNat = S.fold min 2147483647 (fun x => (f x).toNat) ∧
      S.fold min 2147483647 (fun x => (f x).toNat) < 2 ^ 31 := by
    induction S using Finset.induction_on with
    | empty => exact ⟨rfl, by rw [Finset.fold_empty]; decide⟩
    | insert a S ha ih =>
      rw [Finset.fold_insert ha, Finset.fold_insert ha, WordArith.toNat_minsi_of_lt _ _ (hf a) (ih.1 ▸ ih.2), ih.1]
      exact ⟨rfl, lt_of_le_of_lt (min_le_left _ _) (hf a)⟩
  exact key.1

/-- The number the kernel compares places with is `j` exactly when `j` is the first place where the row is largest. -/
theorem least_iff (q : Fin 4096 → EReal) (M : EReal) (hM : M = Math.top q) (j : Fin 4096) :
    (Finset.univ : Finset (Fin 4096)).fold min 2147483647 (fun x => if q x = M then x.val else 4096) = j.val ↔ firstMax q j := by
  have hle : ∀ x, q x ≤ M := fun x => hM ▸ Math.le_top' q x
  have hj := j.isLt
  rw [eq_comm, le_antisymm_iff, Finset.le_fold_min, Finset.fold_min_le]
  constructor
  · rintro ⟨⟨-, h1⟩, h2 | ⟨x, -, h2⟩⟩
    · omega
    · have hx : q x = M := by
        by_contra h
        rw [if_neg h] at h2
        omega
      rw [if_pos hx] at h2
      have h3 := h1 x (Finset.mem_univ _)
      rw [if_pos hx] at h3
      obtain rfl : x = j := Fin.ext (by omega)
      refine ⟨fun j' => hx ▸ hle j', fun j' e => ?_⟩
      have h4 := h1 j' (Finset.mem_univ _)
      rwa [if_pos (e.trans hx)] at h4
  · rintro ⟨h1, h2⟩
    have hx : q j = M := by
      refine le_antisymm (hle j) ?_
      rw [hM, Math.top, Finset.fold_max_le]
      exact ⟨bot_le, fun x _ => h1 x⟩
    refine ⟨⟨by omega, fun x _ => ?_⟩, .inr ⟨j, Finset.mem_univ _, by rw [if_pos hx]⟩⟩
    by_cases h : q x = M
    · rw [if_pos h]; exact h2 x (h.trans hx.symm)
    · rw [if_neg h]; omega

/-- The kernel's test at an entry: is this the first place where the row is largest? -/
theorem hit_at (q : S64x4096.Idx → Ideal .f32) (r : Fin 64) (j : Fin 4096) {α : Type} (x y : α) [Decidable (firstMax (fun t => q (ix2 r t)) j)] :
    Scalar.select (k0_pay3 (F := Ideal) q (ix2 r j)) x y = if firstMax (fun t => q (ix2 r t)) j then x else y := by
  unfold k0_pay3
  pointwise
  have hM : (Finset.fold max (Ideal.ofBits FTy.f32 4286578688#32) (fun x => q (ix2 r x)) Finset.univ : EReal) = Math.top (fun t => q (ix2 r t)) := rfl
  have hN := fold_minsi (Finset.univ : Finset (Fin 4096)) (fun x => if q (ix2 r x) = Finset.fold max (Ideal.ofBits FTy.f32 4286578688#32) (fun x => q (ix2 r x)) Finset.univ then
            BitVec.ofNat 32 x.val else 4096#32) (fun x => by
      have := x.isLt
      split <;> simp <;> omega)
  generalize (Finset.fold max (Ideal.ofBits FTy.f32 4286578688#32) (fun x => q (ix2 r x)) Finset.univ) = M at *
  generalize Finset.fold IntOp.minsi _ _ _ = W at *
  have hN' : W.toNat = (Finset.univ : Finset (Fin 4096)).fold min 2147483647 (fun x => if q (ix2 r x) = M then x.val else 4096) := by
    rw [hN]
    congr 1
    funext x
    have := x.isLt
    split
    · rw [BitVec.toNat_ofNat]; omega
    · rfl
  have hj := j.isLt
  have e := least_iff (fun t => q (ix2 r t)) M hM j
  rw [← hN'] at e
  have hw : W = BitVec.ofNat 32 W.toNat := by simp
  rw [hw, WordCmp.cmpi_eq_ofNat (by omega) W.isLt]
  by_cases h : firstMax (fun t => q (ix2 r t)) j
  · simp [h, e.mpr h, Scalar.select]
  · have h' : ¬ j.val = W.toNat := fun g => h (e.mp g.symm)
    simp [h, h', Scalar.select]

open Classical in
/-- The row before round `k`, and the mask before round `k`. -/
theorem rounds (P : S64x4096.Idx → Ideal .f32) (r : Fin 64) (hP : ∀ j, (⊥ : EReal) < P (ix2 r j)) (k : ℕ) (hk : k ≤ 4096) :
    (∀ j, pertAt (F := Ideal) P k (ix2 r j) = left (fun t => P (ix2 r t)) k j) ∧
      ∀ j, maskAt (F := Ideal) P (k0_pay2 (F := Ideal)) k (ix2 r j) = if taken (fun t => P (ix2 r t)) k j then (1 : EReal) else (0 : EReal) := by
  induction k with
  | zero =>
    refine ⟨fun j => (if_neg (taken_zero _ j)).symm, fun j => ?_⟩
    rw [if_neg (taken_zero _ j)]
    show Ideal.ofBits .f32 0x00000000#32 = 0
    exact Ideal.ofBits_zero_f32
  | succ k ih =>
    obtain ⟨ih1, ih2⟩ := ih (by omega)
    have hrow : (fun t => pertAt (F := Ideal) P k (ix2 r t)) = left (fun t => P (ix2 r t)) k := funext ih1
    have hf : ∀ j, firstMax (fun t => pertAt (F := Ideal) P k (ix2 r t)) j ↔ j = sortedFrom (before fun t => P (ix2 r t)) ⟨k, by omega⟩ := fun j => by
      rw [hrow]
      exact firstMax_iff _ hP ⟨k, by omega⟩ j
    have ht := taken_succ (fun t => P (ix2 r t)) ⟨k, by omega⟩
    constructor
    · intro j
      have e : pertAt (F := Ideal) P (k + 1) (ix2 r j) = Scalar.select (k0_pay3 (pertAt (F := Ideal) P k) (ix2 r j)) ⊥ (pertAt (F := Ideal) P k (ix2 r j)) := by
        show k0_pay5 (pertAt (F := Ideal) P k) (ix2 r j) = _
        unfold k0_pay5
        pointwise
        rfl
      rw [e, hit_at, ih1 j]
      unfold left
      by_cases h1 : j = sortedFrom (before fun t => P (ix2 r t)) ⟨k, by omega⟩
      · rw [if_pos ((hf j).mpr h1), if_pos ((ht j).mpr (.inl h1))]
      · rw [if_neg (fun h => h1 ((hf j).mp h))]
        by_cases h2 : taken (fun t => P (ix2 r t)) k j
        · rw [if_pos h2, if_pos ((ht j).mpr (.inr h2))]
        · rw [if_neg h2, if_neg (fun h => ((ht j).mp h).elim h1 h2)]
    · intro j
      have e : maskAt (F := Ideal) P (k0_pay2 (F := Ideal)) (k + 1) (ix2 r j) = Scalar.select (k0_pay3 (pertAt (F := Ideal) P k) (ix2 r j)) (1 : EReal) (maskAt (F := Ideal) P (k0_pay2 (F := Ideal)) k (ix2 r j)) := by
        show k0_pay4 (pertAt (F := Ideal) P k) (maskAt (F := Ideal) P (k0_pay2 (F := Ideal)) k) (ix2 r j) = _
        unfold k0_pay4
        pointwise
      rw [e, hit_at, ih2 j]
      by_cases h1 : j = sortedFrom (before fun t => P (ix2 r t)) ⟨k, by omega⟩
      · rw [if_pos ((hf j).mpr h1), if_pos ((ht j).mpr (.inl h1))]
      · rw [if_neg (fun h => h1 ((hf j).mp h))]
        by_cases h2 : taken (fun t => P (ix2 r t)) k j
        · rw [if_pos h2, if_pos ((ht j).mpr (.inr h2))]
        · rw [if_neg h2, if_neg (fun h => ((ht j).mp h).elim h1 h2)]

open Classical in
/-- The mask holds one at the first 32 places of each sorted row of perturbed scores and zero elsewhere. -/
theorem mask_at (y z : S64x4096.Idx → Ideal .f32) (r : Fin 64) (h : ∀ j, (⊥ : EReal) < y (ix2 r j) + z (ix2 r j)) (j : Fin 4096) :
    maskV (F := Ideal) y z (ix2 r j) = if taken (fun t => y (ix2 r t) + z (ix2 r t)) 32 j then (1 : EReal) else 0 := by
  have e : ∀ t, k0_pay1 (F := Ideal) y z (ix2 r t) = y (ix2 r t) + z (ix2 r t) := fun t => by
    unfold k0_pay1
    pointwise
  unfold maskV
  rw [(rounds (k0_pay1 y z) r (fun t => by rw [e t]; exact h t) 32 (by decide)).2 j]
  simp only [e]

end Cert.Proof.KernelIdeal
-- ==== Proof.PI.Result.lean ====
/- What the kernel's program leaves in its two results: the host lines after the kernel read at the two arrays it fills,
   and the two arrays at what its body computes from the score arrays it is handed. -/
module

public import proofs.«01_k».proof.Proof.PI.Body
public import Idealize.ShloMosaic.Lib.Pipeline.ValueKit.Geometry
public import Idealize.ShloMosaic.Lib.StableHlo.RunRead

@[expose] public section

noncomputable section

namespace Cert.Proof.KernelIdeal

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat Cfg Window)

variable {F : FTy → Type} [FloatOps F] [Named F]
variable (m : (ℓ : Loc nD τ sig) → Buf (Elt F) ℓ)

theorem iblk_0 (c : Dev nD) : iblk m c 0 t0_0 = V m c main_call0_v2 := by
  funext i
  unfold iblk
  rw [View.read_apply]
  refine congrArg (V m c main_call0_v2) ?_
  funext a
  apply Fin.ext
  exact Window.rect_emb_val_of_index_zero (cfg0.win 0) t0_0 a (by revert a; decide) i

theorem iblk_1 (c : Dev nD) : iblk m c 1 t0_0 = V m c main_call0_v1 := by
  funext i
  unfold iblk
  rw [View.read_apply]
  refine congrArg (V m c main_call0_v1) ?_
  funext a
  apply Fin.ext
  exact Window.rect_emb_val_of_index_zero (cfg0.win 1) t0_0 a (by revert a; decide) i

theorem iblk_2 (c : Dev nD) : iblk m c 2 t0_0 = V m c main_call0_v15 := by
  funext i
  unfold iblk
  rw [View.read_apply]
  refine congrArg (V m c main_call0_v15) ?_
  funext a
  apply Fin.ext
  exact Window.rect_emb_val_of_index_zero (cfg0.win 2) t0_0 a (by revert a; decide) i

/-- The first array the kernel fills. -/
theorem arr_3 (c : Dev nD) : (dats m 0 c).arrAt 3 cfg0.N = margV (V m c main_call0_v2) := by
  funext i
  refine ((dats m 0 c).arrAt_emb_eq_after_last 3 t0_0 (by decide +kernel) i).trans ?_
  rw [after_3, iblk_0]
  rfl

/-- The second. -/
theorem arr_4 (c : Dev nD) : (dats m 0 c).arrAt 4 cfg0.N = maskV (V m c main_call0_v1) (V m c main_call0_v15) := by
  funext i
  refine ((dats m 0 c).arrAt_emb_eq_after_last 4 t0_0 (by decide +kernel) i).trans ?_
  rw [after_4, iblk_1, iblk_2]
  generalize maskV (V m c main_call0_v1) (V m c main_call0_v15) = M
  rfl

/-- The marginals as the program returns them. -/
def outM (x : FVec F S64x4096 .f32) : FVec F S32x4096x2 .f32 :=
  transpose S32x4096x2 [0, 2, 1] (shapeCast S32x2x4096 x shapeCasts_S64x4096_S32x2x4096) transposes_S32x2x4096_S32x4096x2_0_2_1

/-- The mask as the program returns it. -/
def outK (k : FVec F S1x64x4096 .f32) (x : FVec F S64x4096 .f32) : FVec F S1x32x4096x2 .f32 :=
  transpose S1x32x4096x2 [0, 1, 3, 2] (shapeCast S1x32x2x4096
    (addf (subf k (broadcastInDim S1x64x4096 ![1, 2] bcast_S64x4096_S1x64x4096_1_2 x)) (broadcastInDim S1x64x4096 ![1, 2] bcast_S64x4096_S1x64x4096_1_2 x))
    shapeCasts_S1x64x4096_S1x32x2x4096) transposes_S1x32x2x4096_S1x32x4096x2_0_1_3_2

theorem tail_v0_1 (W : Valuation τ sig (Elt F)) : after hostOps1 W (Proc.devRef .tc main_v0_1)
    = outM (transpose S64x4096 [1, 0] (W (Proc.devRef .tc main_call0_v16_0) : FVec F S4096x64 .f32) transposes_S4096x64_S64x4096_1_0) := by
  after_reads_simp
  rfl

theorem tail_v0_0 (W : Valuation τ sig (Elt F)) : after hostOps1 W (Proc.devRef .tc main_v0_0)
    = outK (broadcastInDim S1x64x4096 ![1, 2] bcast_S64x4096_S1x64x4096_1_2 (W (Proc.devRef .tc main_call0_v16_1) : FVec F S64x4096 .f32))
        (transpose S64x4096 [1, 0] (W (Proc.devRef .tc main_call0_v16_0) : FVec F S4096x64 .f32) transposes_S4096x64_S64x4096_1_0) := by
  after_reads_simp
  rfl

/-- The contents after the kernel. -/
def midV (c : Dev nD) : Valuation τ sig (Elt F) := Pipeline.withArrays (cfgs 0).spec c (V0 m c) fun w => (dats m 0 c).arrAt w (cfgs 0).N

theorem mid_3 (c : Dev nD) : midV m c (Proc.devRef .tc main_call0_v16_0) = margV (V m c main_call0_v2) :=
  (Pipeline.withArrays_arr spec0 launch0.win.arr_inj c (V0 m c) _ 3).trans (arr_3 m c)
theorem mid_4 (c : Dev nD) : midV m c (Proc.devRef .tc main_call0_v16_1) = maskV (V m c main_call0_v1) (V m c main_call0_v15) :=
  (Pipeline.withArrays_arr spec0 launch0.win.arr_inj c (V0 m c) _ 4).trans (arr_4 m c)

theorem tail_eq (c : Dev nD) (b : Ref sig .tc) : Pipeline.afterTail₀ cfgs (dats m) 0 (V0 m) [hostOps1] c b = after hostOps1 (midV m c) (Proc.devRef .tc b) := by
  unfold Pipeline.afterTail₀ midV
  rw [show ([hostOps1] : List (List (HloOp τ sig (Elt F)))).flatten = hostOps1 from List.append_nil _]

/-- The second result. -/
theorem W_v0_1 (c : Dev nD) : Pipeline.afterTail₀ cfgs (dats m) 0 (V0 m) [hostOps1] c main_v0_1
    = outM (transpose S64x4096 [1, 0] (margV (V m c main_call0_v2)) transposes_S4096x64_S64x4096_1_0) := by
  rw [tail_eq, tail_v0_1, mid_3]

/-- The first result. -/
theorem W_v0_0 (c : Dev nD) : Pipeline.afterTail₀ cfgs (dats m) 0 (V0 m) [hostOps1] c main_v0_0
    = outK (broadcastInDim S1x64x4096 ![1, 2] bcast_S64x4096_S1x64x4096_1_2 (maskV (V m c main_call0_v1) (V m c main_call0_v15)))
        (transpose S64x4096 [1, 0] (margV (V m c main_call0_v2)) transposes_S4096x64_S64x4096_1_0) := by
  rw [tail_eq, tail_v0_0, mid_3, mid_4]

/-- The scores, one row per batch entry and group. -/
def flatK (x : FVec F S32x4096x2 .f32) : FVec F S64x4096 .f32 :=
  shapeCast S64x4096 (transpose S32x2x4096 [0, 2, 1] x transposes_S32x4096x2_S32x2x4096_0_2_1) shapeCasts_S32x2x4096_S64x4096

/-- The host lines that draw the noise. -/
abbrev noiseOps : List (HloOp τ sig (Elt F)) := hostOps0.drop 3
/-- The contents before the noise is drawn. -/
def startV (c : Dev nD) : Valuation τ sig (Elt F) := after (hostOps0.take 3) (fun b => m (c, b))

theorem V0_split (c : Dev nD) : V0 m c = after noiseOps (startV m c) := by
  unfold V0 startV
  rw [← after_append]
  rfl

theorem start_v1 (c : Dev nD) : startV m c (Proc.devRef .tc main_call0_v1) = flatK (m ((c.tc : Thread nD τ).loc main_arg0)) := by
  unfold startV
  simp only [hostOps0, List.take_succ_cons, List.take_zero]
  after_reads_simp
  rfl
theorem start_v2 (c : Dev nD) : startV m c (Proc.devRef .tc main_call0_v2)
    = transpose S4096x64 [1, 0] (flatK (m ((c.tc : Thread nD τ).loc main_arg0))) transposes_S64x4096_S4096x64_1_0 := by
  unfold startV
  simp only [hostOps0, List.take_succ_cons, List.take_zero]
  after_reads_simp
  rfl

theorem V_v1 (c : Dev nD) : V m c main_call0_v1 = flatK (m ((c.tc : Thread nD τ).loc main_arg0)) := by
  show V0 m c (Proc.devRef .tc main_call0_v1) = _
  rw [V0_split, ← start_v1]
  exact after_of_forall_not_mem (b := Proc.devRef .tc main_call0_v1) _ _ (List.forall_iff_forall_mem.mp (by
    simp only [noiseOps, hostOps0, List.drop_succ_cons, List.drop_zero, List.Forall, nullary_writes, unary_writes, binary_writes, reshape_writes, Finset.mem_singleton]
    repeat' apply And.intro
    all_goals exact devRef_ne_of_ne (by decide)))
theorem V_v2 (c : Dev nD) : V m c main_call0_v2 = transpose S4096x64 [1, 0] (flatK (m ((c.tc : Thread nD τ).loc main_arg0))) transposes_S64x4096_S4096x64_1_0 := by
  show V0 m c (Proc.devRef .tc main_call0_v2) = _
  rw [V0_split, ← start_v2]
  exact after_of_forall_not_mem (b := Proc.devRef .tc main_call0_v2) _ _ (List.forall_iff_forall_mem.mp (by
    simp only [noiseOps, hostOps0, List.drop_succ_cons, List.drop_zero, List.Forall, nullary_writes, unary_writes, binary_writes, reshape_writes, Finset.mem_singleton]
    repeat' apply And.intro
    all_goals exact devRef_ne_of_ne (by decide)))

end Cert.Proof.KernelIdeal

end
-- ==== Proof.RI.Step.lean ====
module

public import proofs.«01_k».proof.Proof.Math
public import proofs.«01_k».proof.Proof.RI.Frame
public import Idealize.ShloMosaic.Lib.Pointwise

@[expose] public section
set_option maxRecDepth 16384
noncomputable section
namespace Cert.Proof.Reference
open Cert.ReferenceIdeal Cert.ReferenceIdeal.Gen Cert.ReferenceIdeal.Value
open Idealize.ShloMosaic Idealize.ShloMosaic.Pointwise Idealize.ShloMosaic.StableHlo
open Cert.Proof.Math

/-- The scores a trip reads: one row of the two stacked tables. -/
def rowR (I : IVec S_ 32) (T : FVec Ideal S4096x2x64 .f32) : FVec Ideal S2x64 .f32 :=
  shapeCast S2x64 (Host.dynamicSlice S1x2x64 T (fun k => (((![I, constantI S_ 32 0#32, constantI S_ 32 0#32] : Fin 3 → IVec S_ 32)) k (Shape.Idx.first h_S_)).toInt) sliceFits_S4096x2x64_S1x2x64) shapeCasts_S1x2x64_S2x64

/-- The carried table shifted by one entry, with the trip's scores added. -/
def shR (ρ : FVec Ideal S2x64 .f32) (C : FVec Ideal S2x64x33 .f32) : FVec Ideal S2x64x33 .f32 :=
  concatenate S2x64x33 2 [⟨S2x64x1, (broadcastInDim S2x64x1 ![1, 2] bcast_S64x1_S2x64x1_1_2 (broadcastInDim S64x1 ![] bcast_S_S64x1 (constant S_ .f32 0xFF800000#32)))⟩, ⟨S2x64x32, (addf (extractStridedSlice S2x64x32 ![0, 0, 0] C slices_S2x64x33_S2x64x32_0_0_0) (broadcastInDim S2x64x32 ![0, 1, 2] bcast_S2x64x1_S2x64x32_0_1_2 (broadcastInDim S2x64x1 ![0, 1] bcast_S2x64_S2x64x1_0_1 ρ)))⟩] concatenates_S2x64x1_S2x64x32_S2x64x33_d2

/-- The log-add-exp as the reference writes it. -/
def laeR (C S : FVec Ideal S2x64x33 .f32) : FVec Ideal S2x64x33 .f32 :=
  select (cmpf .une (subf C S) (subf C S)) (addf C S) (addf (maximumf C S) (Host.log1p (Host.exp (Host.negf (Host.absf (subf C S))))))

theorem res123_eq (V : Valuation τ sig (Elt Ideal)) :
    res_main_while0b_v123 V = laeR (V (Proc.devRef .tc main_v15_2)) (shR (rowR (V (Proc.devRef .tc main_v15_1)) (V (Proc.devRef .tc main_v15_0))) (V (Proc.devRef .tc main_v15_2))) := rfl

theorem ofBits_neg_inf : Ideal.ofBits FTy.f32 0xFF800000#32 = ⊥ := by
  first | rfl | decide | simp [Ideal.ofBits]

theorem iv_toInt (k : ℕ) (hk : k < 4096) : (BitVec.ofNat 32 k).toInt = (k : ℤ) := by
  rw [BitVec.toInt_eq_toNat_of_lt (by simp; omega)]
  simp; omega

theorem rowR_at (k : ℕ) (hk : k < 4096) (T : FVec Ideal S4096x2x64 .f32) (d : Fin 2) (r : Fin 64) :
    rowR (fun _ => BitVec.ofNat 32 k) T (ix2 d r) = T (ix3 ⟨k, hk⟩ d r) := by
  pointwise [rowR]
  have c0 := Host.clampedStart_of_le (s := S4096x2x64) (t := S1x2x64) rfl (fun a => ((![fun _ => BitVec.ofNat 32 k, constantI S_ 32 0#32, constantI S_ 32 0#32] : Fin 3 → IVec S_ 32) a (Shape.Idx.first h_S_)).toInt) 0 k (iv_toInt k hk) (show k + 1 ≤ 4096 by omega)
  have c1 := Host.clampedStart_of_le (s := S4096x2x64) (t := S1x2x64) rfl (fun a => ((![fun _ => BitVec.ofNat 32 k, constantI S_ 32 0#32, constantI S_ 32 0#32] : Fin 3 → IVec S_ 32) a (Shape.Idx.first h_S_)).toInt) 1 0 rfl (show 0 + 2 ≤ 2 by omega)
  have c2 := Host.clampedStart_of_le (s := S4096x2x64) (t := S1x2x64) rfl (fun a => ((![fun _ => BitVec.ofNat 32 k, constantI S_ 32 0#32, constantI S_ 32 0#32] : Fin 3 → IVec S_ 32) a (Shape.Idx.first h_S_)).toInt) 2 0 rfl (show 0 + 64 ≤ 64 by omega)
  simp only [c0, c1, c2, Nat.zero_add]

theorem shR_at (ρ : FVec Ideal S2x64 .f32) (C : FVec Ideal S2x64x33 .f32) (d : Fin 2) (r : Fin 64) (j : Fin 33) :
    shR ρ C (ix3 d r j) = if h : j.val < 1 then ⊥ else C (ix3 d r ⟨j.val - 1, by omega⟩) + ρ (ix2 d r) := by
  pointwise [shR]
  rw [ofBits_neg_inf]

theorem laeR_at (C S : FVec Ideal S2x64x33 .f32) (i : S2x64x33.Idx) : laeR C S i = lae (C i) (S i) := by
  pointwise [laeR]
  rw [if_neg (by simp)]
  rfl

/-- The stack with one trip's table written into it. -/
def dusR (I : IVec S_ 32) (S : FVec Ideal S4096x2x64x33 .f32) (C : FVec Ideal S2x64x33 .f32) : FVec Ideal S4096x2x64x33 .f32 :=
  Host.dynamicUpdateSlice S (broadcastInDim S1x2x64x33 ![1, 2, 3] bcast_S2x64x33_S1x2x64x33_1_2_3 C) (fun k => (((![I, constantI S_ 32 0#32, constantI S_ 32 0#32, constantI S_ 32 0#32] : Fin 4 → IVec S_ 32)) k (Shape.Idx.first h_S_)).toInt) updateFits_S4096x2x64x33_S1x2x64x33

theorem step3_eq (V : Valuation τ sig (Elt Ideal)) :
    step_main_v15_3 V = dusR (V (Proc.devRef .tc main_v15_1)) (V (Proc.devRef .tc main_v15_3)) (res_main_while0b_v123 V) := by
  unfold step_main_v15_3 dusR
  generalize res_main_while0b_v123 V = C
  rfl

theorem dusR_at (k : ℕ) (hk : k < 4096) (S : FVec Ideal S4096x2x64x33 .f32) (C : FVec Ideal S2x64x33 .f32) (t : Fin 4096) (d : Fin 2) (r : Fin 64) (j : Fin 33) :
    dusR (fun _ => BitVec.ofNat 32 k) S C (ix4 t d r j) = if t.val = k then C (ix3 d r j) else S (ix4 t d r j) := by
  pointwise [dusR]
  have c0 := Host.clampedStart_of_le (s := S4096x2x64x33) (t := S1x2x64x33) rfl (fun a => ((![fun _ => BitVec.ofNat 32 k, constantI S_ 32 0#32, constantI S_ 32 0#32, constantI S_ 32 0#32] : Fin 4 → IVec S_ 32) a (Shape.Idx.first h_S_)).toInt) 0 k (iv_toInt k hk) (show k + 1 ≤ 4096 by omega)
  have c1 := Host.clampedStart_of_le (s := S4096x2x64x33) (t := S1x2x64x33) rfl (fun a => ((![fun _ => BitVec.ofNat 32 k, constantI S_ 32 0#32, constantI S_ 32 0#32, constantI S_ 32 0#32] : Fin 4 → IVec S_ 32) a (Shape.Idx.first h_S_)).toInt) 1 0 rfl (show 0 + 2 ≤ 2 by omega)
  have c2 := Host.clampedStart_of_le (s := S4096x2x64x33) (t := S1x2x64x33) rfl (fun a => ((![fun _ => BitVec.ofNat 32 k, constantI S_ 32 0#32, constantI S_ 32 0#32, constantI S_ 32 0#32] : Fin 4 → IVec S_ 32) a (Shape.Idx.first h_S_)).toInt) 2 0 rfl (show 0 + 64 ≤ 64 by omega)
  have c3 := Host.clampedStart_of_le (s := S4096x2x64x33) (t := S1x2x64x33) rfl (fun a => ((![fun _ => BitVec.ofNat 32 k, constantI S_ 32 0#32, constantI S_ 32 0#32, constantI S_ 32 0#32] : Fin 4 → IVec S_ 32) a (Shape.Idx.first h_S_)).toInt) 3 0 rfl (show 0 + 33 ≤ 33 by omega)
  simp only [c0, c1, c2, c3, Nat.sub_zero, Nat.zero_le, and_true]
  by_cases h : t.val = k
  · rw [dif_pos (by omega), if_pos h]
  · rw [dif_neg (by omega), if_neg h]

end Cert.Proof.Reference
-- ==== Proof.RI.Post.lean ====
module

public import proofs.«01_k».proof.Proof.RI.Step
public import Idealize.ShloMosaic.Lib.Routing.OpsSet

@[expose] public section
set_option maxRecDepth 16384
noncomputable section
namespace Cert.Proof.Reference
open Cert.ReferenceIdeal Cert.ReferenceIdeal.Gen Cert.ReferenceIdeal.Value
open Idealize.ShloMosaic Idealize.ShloMosaic.Pointwise Idealize.ShloMosaic.StableHlo
open Cert.Proof.Math

/-- The scores as one row per subset. -/
def flatR (x : FVec Ideal S32x4096x2 .f32) : FVec Ideal S64x4096 .f32 :=
  shapeCast S64x4096 (transpose S32x2x4096 [0, 2, 1] x transposes_S32x4096x2_S32x2x4096_0_2_1) shapeCasts_S32x2x4096_S64x4096

/-- The scores read downwards and upwards, stacked. -/
def stackR (f : FVec Ideal S64x4096 .f32) : FVec Ideal S4096x2x64 .f32 :=
  transpose S4096x2x64 [1, 0, 2] (concatenate S2x4096x64 0 [⟨S1x4096x64, broadcastInDim S1x4096x64 ![1, 2] bcast_S4096x64_S1x4096x64_1_2 (transpose S4096x64 [1, 0] f transposes_S64x4096_S4096x64_1_0)⟩, ⟨S1x4096x64, broadcastInDim S1x4096x64 ![1, 2] bcast_S4096x64_S1x4096x64_1_2 (transpose S4096x64 [1, 0] (Host.reverse [1] f) transposes_S64x4096_S4096x64_1_0)⟩] concatenates_S1x4096x64_S1x4096x64_S2x4096x64_d0) transposes_S2x4096x64_S4096x2x64_1_0_2

/-- The empty table. -/
def initR : FVec Ideal S64x33 .f32 :=
  Host.scatter scatter_S64x33_S1_S64_0_1_1_0 (fun _ b => b) (broadcastInDim S64x33 ![] bcast_S_S64x33 (constant S_ .f32 0xFF800000#32)) (broadcastInDim S1 ![] bcast_S_S1 (constantI S_ 32 0#32)) (broadcastInDim S64 ![] bcast_S_S64 (constant S_ .f32 0x00000000#32))

variable (V : Valuation τ sig (Elt Ideal))

theorem entry_v1 : after hostOps0 V (Proc.devRef .tc main_v1) = flatR (V (Proc.devRef .tc main_arg0)) := by
  after_reads_simp; rfl
theorem entry_v11 : after hostOps0 V (Proc.devRef .tc main_v11) = initR := by
  after_reads_simp; rfl
theorem entry_v15_0 : after hostOps0 V (Proc.devRef .tc main_v15_0) = stackR (flatR (V (Proc.devRef .tc main_arg0))) := by
  after_reads_simp; rfl
theorem entry_v15_1 : after hostOps0 V (Proc.devRef .tc main_v15_1) = constantI S_ 32 0#32 := by
  after_reads_simp; rfl
theorem entry_v15_2 : after hostOps0 V (Proc.devRef .tc main_v15_2) = broadcastInDim S2x64x33 ![1, 2] bcast_S64x33_S2x64x33_1_2 initR := by
  after_reads_simp; rfl

def dn (f : FVec Ideal S64x4096 .f32) (r : Fin 64) (t : ℕ) : EReal := f (ix2 r ⟨t % 4096, Nat.mod_lt _ (by decide)⟩)
def up (f : FVec Ideal S64x4096 .f32) (r : Fin 64) (t : ℕ) : EReal := f (ix2 r ⟨4095 - t % 4096, by omega⟩)

theorem stackR_at (f : FVec Ideal S64x4096 .f32) (t : Fin 4096) (d : Fin 2) (r : Fin 64) :
    stackR f (ix3 t d r) = if d.val < 1 then dn f r t.val else up f r t.val := by
  have ht : t.val % 4096 = t.val := Nat.mod_eq_of_lt t.isLt
  pointwise [stackR, dn, up]
  by_cases h : d.val < 1
  · rw [dif_pos h, if_pos h]
    exact congrArg f (congrArg (ix2 r) (Fin.ext ht.symm))
  · rw [dif_neg h, if_neg h]
    show f (ix2 r t.rev) = _
    refine congrArg f (congrArg (ix2 r) (Fin.ext ?_))
    rw [Fin.val_rev]
    show 4096 - (t.val + 1) = 4095 - t.val % 4096
    omega

theorem ofBits_inf : Ideal.ofBits FTy.f32 0x7F800000#32 = ⊤ := by
  first | rfl | decide | simp [Ideal.ofBits]

theorem initR_land (k : Fin 64) (r : Fin 64) (j : Fin 33) :
    scatter_S64x33_S1_S64_0_1_1_0.resultIdx? (ix1 k) (broadcastInDim S1 ![] bcast_S_S1 (constantI S_ 32 0#32)) = some (ix2 r j) ↔ k.val = r.val ∧ j.val = 0 := by
  refine (Routing.resultIdx?_ix2 _ _ _ r j).trans ?_
  have s0 : scatter_S64x33_S1_S64_0_1_1_0.start (ix1 k) (broadcastInDim S1 ![] bcast_S_S1 (constantI S_ 32 0#32)) 0 = 0 := rfl
  have s1 : scatter_S64x33_S1_S64_0_1_1_0.start (ix1 k) (broadcastInDim S1 ![] bcast_S_S1 (constantI S_ 32 0#32)) 1 = 0 := rfl
  have w0 : scatter_S64x33_S1_S64_0_1_1_0.window (ix1 k) 0 = k.val := rfl
  have w1 : scatter_S64x33_S1_S64_0_1_1_0.window (ix1 k) 1 = 0 := rfl
  rw [s0, s1, w0, w1]
  omega

theorem initR_at (r : Fin 64) (j : Fin 33) : initR (ix2 r j) = if j.val = 0 then 0 else ⊥ := by
  unfold initR
  by_cases h : j.val = 0
  · rw [if_pos h]
    refine Routing.scatter_set_hit _ _ _ _ _ _ (fun k _ => ?_) (ix1 r) ((initR_land r r j).mpr ⟨rfl, h⟩)
    pointwise []
  · rw [if_neg h]
    rw [Routing.scatter_set_miss]
    · pointwise []
      exact ofBits_neg_inf
    · intro k hk
      have e : k = ix1 (k 0) := eq_ix1 k
      rw [e] at hk
      exact h ((initR_land _ r j).mp hk).2

/-- The tables of both directions after every number of scores. -/
def allR (i : FVec Ideal S64x33 .f32) (S : FVec Ideal S4096x2x64x33 .f32) : FVec Ideal S2x4097x64x33 .f32 :=
  concatenate S2x4097x64x33 1 [⟨S2x1x64x33, broadcastInDim S2x1x64x33 ![1, 2, 3] bcast_S1x64x33_S2x1x64x33_1_2_3 (broadcastInDim S1x64x33 ![1, 2] bcast_S64x33_S1x64x33_1_2 i)⟩, ⟨S2x4096x64x33, transpose S2x4096x64x33 [1, 0, 2, 3] S transposes_S4096x2x64x33_S2x4096x64x33_1_0_2_3⟩] concatenates_S2x1x64x33_S2x4096x64x33_S2x4097x64x33_d1

def fwdR (A : FVec Ideal S2x4097x64x33 .f32) : FVec Ideal S4097x64x33 .f32 :=
  shapeCast S4097x64x33 (extractStridedSlice S1x4097x64x33 ![0, 0, 0, 0] A slices_S2x4097x64x33_S1x4097x64x33_0_0_0_0) shapeCasts_S1x4097x64x33_S4097x64x33
def bwdR (A : FVec Ideal S2x4097x64x33 .f32) : FVec Ideal S4097x64x33 .f32 :=
  shapeCast S4097x64x33 (extractStridedSlice S1x4097x64x33 ![1, 0, 0, 0] A slices_S2x4097x64x33_S1x4097x64x33_1_0_0_0) shapeCasts_S1x4097x64x33_S4097x64x33
def combR (F G : FVec Ideal S4097x64x33 .f32) : FVec Ideal S4096x64x32 .f32 :=
  addf (extractStridedSlice S4096x64x32 ![0, 0, 0] F slices_S4097x64x33_S4096x64x32_0_0_0) (Host.reverse [2] (extractStridedSlice S4096x64x32 ![1, 0, 0] (Host.reverse [0] G) slices_S4097x64x33_S4096x64x32_1_0_0))
def maxR (c : FVec Ideal S4096x64x32 .f32) : FVec Ideal S4096x64 .f32 :=
  Host.reduce FloatOps.maximumf c (constant S_ .f32 0xFF800000#32) reducesTo_S4096x64x32_S4096x64_d2 h_S_
def ltR (M : FVec Ideal S4096x64 .f32) : IVec S4096x64 1 :=
  cmpf .olt (Host.absf M) (broadcastInDim S4096x64 ![] bcast_S_S4096x64 (constant S_ .f32 0x7F800000#32))

theorem post1_v22 : after hostOps0_1 V (Proc.devRef .tc main_v22) = fwdR (allR (V (Proc.devRef .tc main_v11)) (V (Proc.devRef .tc main_v15_3))) := by
  after_reads_simp; rfl
theorem post1_v29 : after hostOps0_1 V (Proc.devRef .tc main_v29) = combR (fwdR (allR (V (Proc.devRef .tc main_v11)) (V (Proc.devRef .tc main_v15_3)))) (bwdR (allR (V (Proc.devRef .tc main_v11)) (V (Proc.devRef .tc main_v15_3)))) := by
  after_reads_simp; rfl
theorem post1_v30 : after hostOps0_1 V (Proc.devRef .tc main_v30) = maxR (combR (fwdR (allR (V (Proc.devRef .tc main_v11)) (V (Proc.devRef .tc main_v15_3)))) (bwdR (allR (V (Proc.devRef .tc main_v11)) (V (Proc.devRef .tc main_v15_3))))) := by
  after_reads_simp; rfl
theorem post1_v33 : after hostOps0_1 V (Proc.devRef .tc main_v33) = ltR (maxR (combR (fwdR (allR (V (Proc.devRef .tc main_v11)) (V (Proc.devRef .tc main_v15_3)))) (bwdR (allR (V (Proc.devRef .tc main_v11)) (V (Proc.devRef .tc main_v15_3)))))) := by
  after_reads_simp; rfl
theorem post1_v1 : after hostOps0_1 V (Proc.devRef .tc main_v1) = V (Proc.devRef .tc main_v1) := by
  after_reads_simp
theorem post1_cst_5 : after hostOps0_1 V (Proc.devRef .tc main_cst_5) = constant (F := Ideal) S_ .f32 0x00000000#32 := by
  after_reads_simp

/-- The shift of the log-sum-exp. -/
def aR (M : FVec Ideal S4096x64 .f32) : FVec Ideal S4096x64 .f32 :=
  select (ltR M) M (broadcastInDim S4096x64 ![] bcast_S_S4096x64 (constant S_ .f32 0x00000000#32))

theorem post2_v34 (h : V (Proc.devRef .tc main_cst_5) = constant (F := Ideal) S_ .f32 0x00000000#32) (M : FVec Ideal S4096x64 .f32) (h30 : V (Proc.devRef .tc main_v30) = M)
    (h33 : V (Proc.devRef .tc main_v33) = ltR M) : after hostOps0_2 V (Proc.devRef .tc main_v34) = aR M := by
  after_reads_simp
  rw [h, h30, h33]; rfl
theorem post2_v1 : after hostOps0_2 V (Proc.devRef .tc main_v1) = V (Proc.devRef .tc main_v1) := by
  after_reads_simp
theorem post2_v22 : after hostOps0_2 V (Proc.devRef .tc main_v22) = V (Proc.devRef .tc main_v22) := by
  after_reads_simp
theorem post2_v29 : after hostOps0_2 V (Proc.devRef .tc main_v29) = V (Proc.devRef .tc main_v29) := by
  after_reads_simp

/-- The marginals from the window, its shift, the forward tables and the scores. -/
def margR (c : FVec Ideal S4096x64x32 .f32) (a : FVec Ideal S4096x64 .f32) (A : FVec Ideal S4097x64x33 .f32) (f : FVec Ideal S64x4096 .f32) : FVec Ideal S64x4096 .f32 :=
  transpose S64x4096 [1, 0] (Host.exp (subf (addf (transpose S4096x64 [1, 0] f transposes_S64x4096_S4096x64_1_0)
    (addf (Host.log (Host.reduceAdd (Host.exp (subf c (broadcastInDim S4096x64x32 ![0, 1, 2] bcast_S4096x64x1_S4096x64x32_0_1_2 (broadcastInDim S4096x64x1 ![0, 1] bcast_S4096x64_S4096x64x1_0_1 a)))) (constant S_ .f32 0x00000000#32) reducesTo_S4096x64x32_S4096x64_d2 h_S_)) a))
    (broadcastInDim S4096x64 ![0, 1] bcast_S1x64_S4096x64_0_1 (broadcastInDim S1x64 ![1] bcast_S64_S1x64_1 (shapeCast S64 (extractStridedSlice S64x1 ![0, 32] (shapeCast S64x33 (extractStridedSlice S1x64x33 ![4096, 0, 0] A slices_S4097x64x33_S1x64x33_4096_0_0) shapeCasts_S1x64x33_S64x33) slices_S64x33_S64x1_0_32) shapeCasts_S64x1_S64))))) transposes_S4096x64_S64x4096_1_0

theorem post3_v52 : after hostOps0_3 V (Proc.devRef .tc main_v52) = margR (V (Proc.devRef .tc main_v29)) (V (Proc.devRef .tc main_v34)) (V (Proc.devRef .tc main_v22)) (V (Proc.devRef .tc main_v1)) := by
  after_reads_simp; rfl
theorem post3_v1 : after hostOps0_3 V (Proc.devRef .tc main_v1) = V (Proc.devRef .tc main_v1) := by
  after_reads_simp

theorem allR_at (i : FVec Ideal S64x33 .f32) (S : FVec Ideal S4096x2x64x33 .f32) (d : Fin 2) (t : Fin 4097) (r : Fin 64) (j : Fin 33) :
    allR i S (ix4 d t r j) = if h : t.val < 1 then i (ix2 r j) else S (ix4 ⟨t.val - 1, by omega⟩ d r j) := by
  pointwise [allR]
theorem fwdR_at (A : FVec Ideal S2x4097x64x33 .f32) (t : Fin 4097) (r : Fin 64) (j : Fin 33) : fwdR A (ix3 t r j) = A (ix4 0 t r j) := by
  pointwise [fwdR]
theorem bwdR_at (A : FVec Ideal S2x4097x64x33 .f32) (t : Fin 4097) (r : Fin 64) (j : Fin 33) : bwdR A (ix3 t r j) = A (ix4 1 t r j) := by
  pointwise [bwdR]
theorem combR_at (F G : FVec Ideal S4097x64x33 .f32) (n : Fin 4096) (r : Fin 64) (q : Fin 32) :
    combR F G (ix3 n r q) = F (ix3 ⟨n.val, by omega⟩ r ⟨q.val, by omega⟩) + G (ix3 ⟨4095 - n.val, by omega⟩ r ⟨31 - q.val, by omega⟩) := by
  pointwise [combR]
  show F _ + G (ix3 (⟨1 + n.val, by omega⟩ : Fin 4097).rev r ⟨q.rev.val, by omega⟩) = _
  refine congrArg (F _ + ·) (congrArg G ?_)
  refine congr (congrFun (congrArg ix3 (Fin.ext ?_)) r) (Fin.ext ?_)
  · rw [Fin.val_rev]; show 4097 - (1 + n.val + 1) = 4095 - n.val; omega
  · show q.rev.val = 31 - q.val; rw [Fin.val_rev]; omega
theorem maxR_at (c : FVec Ideal S4096x64x32 .f32) (n : Fin 4096) (r : Fin 64) : maxR c (ix2 n r) = top fun q : Fin 32 => c (ix3 n r q) := by
  pointwise [maxR]
  rw [ofBits_neg_inf]; rfl
theorem aR_at (M : FVec Ideal S4096x64 .f32) (n : Fin 4096) (r : Fin 64) : aR M (ix2 n r) = if max (M (ix2 n r)) (-(M (ix2 n r))) < ⊤ then M (ix2 n r) else 0 := by
  pointwise [aR, ltR]
  rw [ofBits_inf]; rfl
theorem margR_at (c : FVec Ideal S4096x64x32 .f32) (a : FVec Ideal S4096x64 .f32) (A : FVec Ideal S4097x64x33 .f32) (f : FVec Ideal S64x4096 .f32) (n : Fin 4096) (r : Fin 64) :
    margR c a A f (ix2 r n) = Ideal.exp (f (ix2 r n) + (Ideal.log (∑ q : Fin 32, Ideal.exp (c (ix3 n r q) - a (ix2 n r))) + a (ix2 n r)) - A (ix3 4096 r 32)) := by
  pointwise [margR]

/-- The column a direction of the sweep reads. -/
def side (f : FVec Ideal S64x4096 .f32) (d : Fin 2) (r : Fin 64) : ℕ → EReal := if d.val < 1 then dn f r else up f r

/-- What the loop holds before trip `k`. -/
structure At (f : FVec Ideal S64x4096 .f32) (k : ℕ) (W : Valuation τ sig (Elt Ideal)) : Prop where
  rows : W (Proc.devRef .tc main_v15_0) = stackR f
  ctr : W (Proc.devRef .tc main_v15_1) = fun _ => BitVec.ofNat 32 k
  table : ∀ (d : Fin 2) (r : Fin 64) (j : Fin 33), (W (Proc.devRef .tc main_v15_2) : FVec Ideal S2x64x33 .f32) (ix3 d r j) = E (side f d r) k j.val
  stack : ∀ (t : Fin 4096) (d : Fin 2) (r : Fin 64) (j : Fin 33), t.val < k → (W (Proc.devRef .tc main_v15_3) : FVec Ideal S4096x2x64x33 .f32) (ix4 t d r j) = E (side f d r) (t.val + 1) j.val

theorem entry_At : At (flatR (V (Proc.devRef .tc main_arg0))) 0 (after hostOps0 V) where
  rows := entry_v15_0 V
  ctr := entry_v15_1 V
  table d r j := by
    rw [entry_v15_2 V]
    pointwise []
    rw [initR_at]
    rfl
  stack t d r j h := absurd h (Nat.not_lt_zero _)

theorem step_At (f : FVec Ideal S64x4096 .f32) (k : ℕ) (hk : k < 4096) (W : Valuation τ sig (Elt Ideal)) (h : At f k W) : At f (k + 1) (STEP W) := by
  have hT : ∀ (d : Fin 2) (r : Fin 64) (j : Fin 33), (res_main_while0b_v123 W : FVec Ideal S2x64x33 .f32) (ix3 d r j) = E (side f d r) (k + 1) j.val := by
    intro d r j
    have hrow : rowR (W (Proc.devRef .tc main_v15_1)) (W (Proc.devRef .tc main_v15_0)) (ix2 d r) = side f d r k := by
      rw [h.rows, h.ctr]
      refine (rowR_at k hk (stackR f) d r).trans ((stackR_at f ⟨k, hk⟩ d r).trans ?_)
      unfold side
      split <;> rfl
    rw [res123_eq, laeR_at, shR_at, h.table, hrow]
    obtain ⟨j, hj⟩ := j
    cases j with
    | zero => rfl
    | succ j =>
      rw [dif_neg (by simp), h.table]
      rfl
  refine ⟨?_, ?_, ?_, ?_⟩
  · rw [STEP_main_v15_0]; exact h.rows
  · rw [STEP_main_v15_1]
    unfold step_main_v15_1
    rw [h.ctr]
    funext i
    show BitVec.ofNat 32 k + 1#32 = _
    rw [BitVec.ofNat_add]
  · intro d r j
    rw [STEP_main_v15_2]
    exact hT d r j
  · intro t d r j ht
    rw [STEP_main_v15_3, step3_eq, h.ctr]
    refine (dusR_at k hk _ _ t d r j).trans ?_
    by_cases e : t.val = k
    · rw [if_pos e, hT, e]
    · rw [if_neg e, h.stack t d r j (by omega)]

theorem iter_At (f : FVec Ideal S64x4096 .f32) (W : Valuation τ sig (Elt Ideal)) (h : At f 0 W) : ∀ k, k ≤ 4096 → At f k (STEP^[k] W)
  | 0, _ => h
  | k + 1, hk => by
    rw [Function.iterate_succ_apply']
    exact step_At f k (by omega) _ (iter_At f W h k (by omega))

theorem exit_stack (m : (ℓ : Loc nD τ sig) → Buf (Elt Ideal) ℓ) (c : Dev nD) (t : Fin 4096) (d : Fin 2) (r : Fin 64) (j : Fin 33) :
    (exitV m c (Proc.devRef .tc main_v15_3) : FVec Ideal S4096x2x64x33 .f32) (ix4 t d r j) = E (side (flatR (m ((c.tc : Thread nD τ).loc main_arg0))) d r) (t.val + 1) j.val := by
  have h1 : exitV m c (Proc.devRef .tc main_v15_3) = (STEP^[4096] (entryContents preI m c)) (Proc.devRef .tc main_v15_3) :=
    (cond_keeps _ main_v15_3 (by decide)).trans (atK_agree m c 4096 main_v15_3 (by decide))
  rw [h1]
  exact (iter_At _ _ (entry_At (launchContents m c)) 4096 le_rfl).stack t d r j t.isLt

theorem exit_v1 (m : (ℓ : Loc nD τ sig) → Buf (Elt Ideal) ℓ) (c : Dev nD) : exitV m c (Proc.devRef .tc main_v1) = flatR (m ((c.tc : Thread nD τ).loc main_arg0)) :=
  (loop_keep m c main_v1 (by decide +kernel) 4096).trans (entry_v1 _)
theorem exit_v11 (m : (ℓ : Loc nD τ sig) → Buf (Elt Ideal) ℓ) (c : Dev nD) : exitV m c (Proc.devRef .tc main_v11) = initR :=
  (loop_keep m c main_v11 (by decide +kernel) 4096).trans (entry_v11 _)

/-- The contents before the noise is drawn. -/
def midV (m : (ℓ : Loc nD τ sig) → Buf (Elt Ideal) ℓ) (c : Dev nD) : Valuation τ sig (Elt Ideal) :=
  after hostOps0_3 (after hostOps0_2 (after hostOps0_1 (exitV m c)))

theorem all_at (m : (ℓ : Loc nD τ sig) → Buf (Elt Ideal) ℓ) (c : Dev nD) (d : Fin 2) (t : Fin 4097) (r : Fin 64) (j : Fin 33) :
    allR initR (exitV m c (Proc.devRef .tc main_v15_3)) (ix4 d t r j) = E (side (flatR (m ((c.tc : Thread nD τ).loc main_arg0))) d r) t.val j.val := by
  rw [allR_at]
  obtain ⟨t, ht⟩ := t
  cases t with
  | zero => rw [dif_pos (by simp), initR_at]; rfl
  | succ t => rw [dif_neg (by simp)]; exact exit_stack m c ⟨t, by omega⟩ d r j

theorem mid_v1 (m : (ℓ : Loc nD τ sig) → Buf (Elt Ideal) ℓ) (c : Dev nD) : midV m c (Proc.devRef .tc main_v1) = flatR (m ((c.tc : Thread nD τ).loc main_arg0)) := by
  unfold midV; rw [post3_v1, post2_v1, post1_v1, exit_v1]

/-- The reference's marginals. -/
theorem mid_v52 (m : (ℓ : Loc nD τ sig) → Buf (Elt Ideal) ℓ) (c : Dev nD) (hx : ∀ i, ⊥ < flatR (m ((c.tc : Thread nD τ).loc main_arg0)) i) (n : Fin 4096) (r : Fin 64) :
    (midV m c (Proc.devRef .tc main_v52) : FVec Ideal S64x4096 .f32) (ix2 r n) = marg (dn (flatR (m ((c.tc : Thread nD τ).loc main_arg0))) r) (up (flatR (m ((c.tc : Thread nD τ).loc main_arg0))) r) n.val := by
  unfold midV
  rw [post3_v52, post2_v34 _ (post1_cst_5 _) _ (post1_v30 _) (post1_v33 _), post2_v29, post2_v22, post2_v1, post1_v29, post1_v22, post1_v1, exit_v1, exit_v11]
  have hA := all_at m c
  generalize allR initR (exitV m c (Proc.devRef .tc main_v15_3)) = A at hA ⊢
  generalize flatR (m ((c.tc : Thread nD τ).loc main_arg0)) = f at hA hx ⊢
  rw [margR_at, aR_at, maxR_at]
  have hc : ∀ q : Fin 32, combR (fwdR A) (bwdR A) (ix3 n r q) = E (dn f r) n.val q.val + E (up f r) (4095 - n.val) (31 - q.val) := by
    intro q
    rw [combR_at, fwdR_at, bwdR_at, hA, hA]
    rfl
  simp only [hc]
  by_cases ht : ∀ i : Fin 4096, f (ix2 r i) < ⊤
  · rw [lse_guard _ ?_ _ rfl, fwdR_at, hA]
    · unfold marg
      have hf : f (ix2 r n) = dn f r n.val := congrArg f (congrArg (ix2 r) (Fin.ext (Nat.mod_eq_of_lt n.isLt).symm))
      rw [hf]
      rfl
    · intro q
      exact EReal.add_lt_top (E_lt_top _ (fun _ => ht _) _ _).ne (E_lt_top _ (fun _ => ht _) _ _).ne
  · push Not at ht
    obtain ⟨i, hi⟩ := ht
    have hd : dn f r i.val = ⊤ := (congrArg f (congrArg (ix2 r) (Fin.ext (Nat.mod_eq_of_lt i.isLt)))).trans (top_le_iff.mp hi)
    have hz : E (dn f r) 4096 32 = ⊤ := E_eq_top' (dn f r) (fun _ => hx _) i.val hd 4096 32 i.isLt (by decide) (by decide)
    have hs : ∀ a : EReal, Ideal.exp (a - ⊤) = 0 := fun a => by
      rw [sub_eq_add_neg, EReal.neg_top, EReal.add_bot]; exact exp_bot
    have hw : (fwdR A (ix3 4096 r 32) : EReal) = ⊤ := by
      rw [fwdR_at, hA]
      exact E_eq_top' (side f 0 r) (fun _ => hx _) i.val hd _ _ (lt_of_lt_of_le i.isLt (by decide)) (by decide) (by decide)
    unfold marg
    rw [hz, hs, hw, hs]

end Cert.Proof.Reference
-- ==== Proof.Sim.lean ====
/- Two programs whose host lines are the same operations in the same order, on buffers numbered alike up to a constant:
   what they leave in buffers of the same number is the same. -/
module

public import Idealize.ShloMosaic.Lib.StableHlo.Run

@[expose] public section

namespace Cert.Proof.Sim

open Idealize.ShloMosaic Idealize.ShloMosaic.StableHlo

variable {τ₁ τ₂ : Topo} {s₁ s₂ : RefSig} {Val : EltTy → Type}

/-- Two device buffers, the first numbered from `lo` and below `n`, the second numbered `d` more. -/
def pair (d lo n : ℕ) (r₁ : Ref s₁ .tc) (r₂ : Ref s₂ .tc) : Bool :=
  decide (r₁.space = .hbm) && (decide (r₂.space = .hbm) && (Nat.ble lo r₁.idx.val && (Nat.blt r₁.idx.val n && Nat.beq r₂.idx.val (r₁.idx.val + d))))

/-- The contents of all such buffers agree. -/
def Rel (d lo n : ℕ) (V₁ : Valuation τ₁ s₁ Val) (V₂ : Valuation τ₂ s₂ Val) : Prop :=
  ∀ (T : BufTy) (r₁ : TRef s₁ T) (r₂ : TRef s₂ T), pair d lo n r₁.ref r₂.ref = true →
    r₁.ofBuf (V₁ (Proc.devRef .tc r₁.ref)) = r₂.ofBuf (V₂ (Proc.devRef .tc r₂.ref))

theorem ref_eq {s : RefSig} {r r' : Ref s .tc} (h : r.space = .hbm) (h' : r'.space = .hbm) (e : r.idx.val = r'.idx.val) : r = r' := by
  obtain ⟨sp, i, hn⟩ := r
  obtain ⟨sp', i', hn'⟩ := r'
  cases h; cases h'
  cases Fin.ext e
  rfl

theorem rel_empty (d lo : ℕ) (V₁ : Valuation τ₁ s₁ Val) (V₂ : Valuation τ₂ s₂ Val) : Rel d lo lo V₁ V₂ := by
  intro T r₁ r₂ h
  simp only [pair, Bool.and_eq_true, Nat.ble_eq, Nat.blt_eq] at h
  omega

/-- One operation on each side, writing the next number. -/
theorem rel_step {d lo n : ℕ} {V₁ : Valuation τ₁ s₁ Val} {V₂ : Valuation τ₂ s₂ Val} (h : Rel d lo n V₁ V₂) (op₁ : HloOp τ₁ s₁ Val) (op₂ : HloOp τ₂ s₂ Val)
    {U : BufTy} (y₁ : TRef s₁ U) (y₂ : TRef s₂ U) (hy : pair d n (n + 1) y₁.ref y₂.ref = true)
    (w₁ : op₁.writes = {Proc.devRef .tc y₁.ref}) (w₂ : op₂.writes = {Proc.devRef .tc y₂.ref})
    (e : y₁.ofBuf (op₁.result V₁ (Proc.devRef .tc y₁.ref)) = y₂.ofBuf (op₂.result V₂ (Proc.devRef .tc y₂.ref))) :
    Rel d lo (n + 1) (op₁.result V₁) (op₂.result V₂) := by
  intro T r₁ r₂ hr
  simp only [pair, Bool.and_eq_true, Nat.ble_eq, Nat.blt_eq, Nat.beq_eq, decide_eq_true_eq] at hr hy
  obtain ⟨hr1, hr2, hr3, hr4, hr5⟩ := hr
  obtain ⟨hy1, hy2, hy3, hy4, hy5⟩ := hy
  by_cases hn : r₁.ref.idx.val < n
  · have n₁ : r₁.ref ≠ y₁.ref := fun q => by rw [q] at hn; omega
    have n₂ : r₂.ref ≠ y₂.ref := fun q => by rw [q] at hr5; omega
    rw [op₁.result_of_not_mem V₁ (by rw [w₁, Finset.mem_singleton]; exact devRef_ne_of_ne n₁),
      op₂.result_of_not_mem V₂ (by rw [w₂, Finset.mem_singleton]; exact devRef_ne_of_ne n₂)]
    refine h T r₁ r₂ ?_
    simp only [pair, Bool.and_eq_true, Nat.ble_eq, Nat.blt_eq, Nat.beq_eq, decide_eq_true_eq]
    exact ⟨hr1, hr2, hr3, hn, hr5⟩
  · have q₁ : r₁.ref = y₁.ref := ref_eq hr1 hy1 (by omega)
    have q₂ : r₂.ref = y₂.ref := ref_eq hr2 hy2 (by omega)
    obtain ⟨r₁, t₁, a₁, b₁⟩ := r₁
    obtain ⟨r₂, t₂, a₂, b₂⟩ := r₂
    obtain ⟨z₁, u₁, c₁, d₁⟩ := y₁
    obtain ⟨z₂, u₂, c₂, d₂⟩ := y₂
    dsimp only at q₁ q₂
    subst q₁ q₂
    have : T = U := t₁.symm.trans u₁
    subst this
    exact e

/-- The two lines take agreeing contents to agreeing contents. -/
def Sim (d lo n k : ℕ) (l₁ : List (HloOp τ₁ s₁ Val)) (l₂ : List (HloOp τ₂ s₂ Val)) : Prop :=
  ∀ (V₁ : Valuation τ₁ s₁ Val) (V₂ : Valuation τ₂ s₂ Val), Rel d lo n V₁ V₂ → Rel d lo k (after l₁ V₁) (after l₂ V₂)

theorem Sim.nil (d lo n : ℕ) : Sim d lo n n ([] : List (HloOp τ₁ s₁ Val)) ([] : List (HloOp τ₂ s₂ Val)) := fun _ _ h => h

theorem after_app {τ : Topo} {s : RefSig} (l l' : List (HloOp τ s Val)) (V : Valuation τ s Val) : after (l ++ l') V = after l' (after l V) := by
  induction l generalizing V with
  | nil => rfl
  | cons op l ih => exact ih _

theorem Sim.append {d lo n j k : ℕ} {l₁ l₁' : List (HloOp τ₁ s₁ Val)} {l₂ l₂' : List (HloOp τ₂ s₂ Val)} (h : Sim d lo n j l₁ l₂) (h' : Sim d lo j k l₁' l₂') :
    Sim d lo n k (l₁ ++ l₁') (l₂ ++ l₂') := fun V₁ V₂ hV => by
  rw [after_app, after_app]
  exact h' _ _ (h _ _ hV)

variable {d lo n k : ℕ} {l₁ : List (HloOp τ₁ s₁ Val)} {l₂ : List (HloOp τ₂ s₂ Val)} {T U W : BufTy}

theorem Sim.nullary (y₁ : TRef s₁ U) (y₂ : TRef s₂ U) (v v' : U.Contents Val) (hv : v = v') (hy : pair d n (n + 1) y₁.ref y₂.ref = true)
    (h : Sim d lo (n + 1) k l₁ l₂) : Sim d lo n k (TRef.nullary y₁ v :: l₁) (TRef.nullary y₂ v' :: l₂) := fun V₁ V₂ hV => hv ▸
  h _ _ (rel_step hV _ _ y₁ y₂ hy rfl rfl (by rw [nullary_result, nullary_result]; simp only [TRef.ofBuf, TRef.toBuf, cast_cast]))

theorem Sim.unary (x₁ : TRef s₁ T) (y₁ : TRef s₁ U) (x₂ : TRef s₂ T) (y₂ : TRef s₂ U) (f f' : T.Contents Val → U.Contents Val) (hf : f = f')
    (hx : pair d lo n x₁.ref x₂.ref = true) (hy : pair d n (n + 1) y₁.ref y₂.ref = true)
    (h : Sim d lo (n + 1) k l₁ l₂) : Sim d lo n k (TRef.unary x₁ y₁ f :: l₁) (TRef.unary x₂ y₂ f' :: l₂) := fun V₁ V₂ hV => hf ▸
  h _ _ (rel_step hV _ _ y₁ y₂ hy rfl rfl (by
    rw [unary_result, unary_result, hV T x₁ x₂ hx]; simp only [TRef.ofBuf, TRef.toBuf, cast_cast]))

theorem Sim.binary (a₁ : TRef s₁ T) (b₁ : TRef s₁ W) (y₁ : TRef s₁ U) (a₂ : TRef s₂ T) (b₂ : TRef s₂ W) (y₂ : TRef s₂ U)
    (f f' : T.Contents Val → W.Contents Val → U.Contents Val) (hf : f = f')
    (ha : pair d lo n a₁.ref a₂.ref = true) (hb : pair d lo n b₁.ref b₂.ref = true) (hy : pair d n (n + 1) y₁.ref y₂.ref = true)
    (h : Sim d lo (n + 1) k l₁ l₂) : Sim d lo n k (TRef.binary a₁ b₁ y₁ f :: l₁) (TRef.binary a₂ b₂ y₂ f' :: l₂) := fun V₁ V₂ hV => hf ▸
  h _ _ (rel_step hV _ _ y₁ y₂ hy rfl rfl (by
    rw [binary_result, binary_result, hV T a₁ a₂ ha, hV W b₁ b₂ hb]; simp only [TRef.ofBuf, TRef.toBuf, cast_cast]))

theorem reshape_ofBuf {τ : Topo} {s : RefSig} (x : TRef s T) (y : TRef s U) (he : T.elt = U.elt) (hn : T.shape.ShapeCasts U.shape) (V : Valuation τ s Val) :
    y.ofBuf ((TRef.reshape x y he hn : HloOp τ s Val).result V (Proc.devRef .tc y.ref)) = fun i => he ▸ shapeCast U.shape (x.ofBuf (V (Proc.devRef .tc x.ref))) hn i := by
  rw [reshape_result]
  obtain ⟨r, t, a, b⟩ := x
  obtain ⟨z, u, c, e⟩ := y
  subst t u
  rfl

theorem Sim.reshape (x₁ : TRef s₁ T) (y₁ : TRef s₁ U) (x₂ : TRef s₂ T) (y₂ : TRef s₂ U) (he he' : T.elt = U.elt) (hn hn' : T.shape.ShapeCasts U.shape)
    (hx : pair d lo n x₁.ref x₂.ref = true) (hy : pair d n (n + 1) y₁.ref y₂.ref = true)
    (h : Sim d lo (n + 1) k l₁ l₂) : Sim d lo n k (TRef.reshape x₁ y₁ he hn :: l₁) (TRef.reshape x₂ y₂ he' hn' :: l₂) := fun V₁ V₂ hV =>
  h _ _ (rel_step hV _ _ y₁ y₂ hy rfl rfl (by
    rw [reshape_ofBuf, reshape_ofBuf, hV T x₁ x₂ hx]))

end Cert.Proof.Sim
-- ==== Proof.Noise.lean ====
/- The noise the two programs draw is the same: the host lines that draw it are the same operations in the same order. -/
module

public import proofs.«01_k».proof.Proof.Sim
public import proofs.«01_k».proof.Proof.PI.Result
public import proofs.«01_k».proof.Proof.RI.Frame
public import proofs.«01_k».proof.Proof.Math

@[expose] public section
set_option maxRecDepth 16384
noncomputable section
namespace Cert.Proof.Noise
open Idealize.ShloMosaic Idealize.ShloMosaic.StableHlo
open Cert.Proof.Sim

variable {F : FTy → Type} [FloatOps F] [Named F]

/-- The kernel's program's lines that make the key and the range. -/
abbrev kerA : List (HloOp Cert.KernelIdeal.τ Cert.KernelIdeal.sig (Elt F)) := (Cert.KernelIdeal.Gen.hostOps0.drop 3).take 12
/-- Its lines that draw uniform numbers. -/
abbrev kerB : List (HloOp Cert.KernelIdeal.τ Cert.KernelIdeal.sig (Elt F)) := (Cert.KernelIdeal.Gen.hostOps0.drop 15).take 267
/-- Its lines from uniform numbers to the noise. -/
abbrev kerC : List (HloOp Cert.KernelIdeal.τ Cert.KernelIdeal.sig (Elt F)) := (Cert.KernelIdeal.Gen.hostOps0.drop 282).take 4

section
open Cert.ReferenceIdeal Cert.ReferenceIdeal.Gen

/-- The reference's lines that make the key and the range. -/
abbrev refA : List (HloOp τ sig (Elt F)) :=
  [ TRef.nullary (.of main_c_7 : TRef sig ⟨S_, .i32⟩) (constantI S_ 32 42#32),
    TRef.nullary (.of main_c_8 : TRef sig ⟨S_, .i32⟩) (constantI S_ 32 32#32),
    TRef.binary (.of main_c_7 : TRef sig ⟨S_, .i32⟩) (.of main_c_8 : TRef sig ⟨S_, .i32⟩) (.of main_v53 : TRef sig ⟨S_, .i32⟩) Host.shrui,
    TRef.unary (.of main_v53 : TRef sig ⟨S_, .i32⟩) (.of main_v54 : TRef sig ⟨S_, .i32⟩) id,
    TRef.unary (.of main_v54 : TRef sig ⟨S_, .i32⟩) (.of main_v55 : TRef sig ⟨S1, .i32⟩) (broadcastInDim S1 ![] bcast_S_S1),
    TRef.nullary (.of main_c_9 : TRef sig ⟨S_, .i32⟩) (constantI S_ 32 4294967295#32),
    TRef.binary (.of main_c_7 : TRef sig ⟨S_, .i32⟩) (.of main_c_9 : TRef sig ⟨S_, .i32⟩) (.of main_v56 : TRef sig ⟨S_, .i32⟩) andi,
    TRef.unary (.of main_v56 : TRef sig ⟨S_, .i32⟩) (.of main_v57 : TRef sig ⟨S_, .i32⟩) id,
    TRef.unary (.of main_v57 : TRef sig ⟨S_, .i32⟩) (.of main_v58 : TRef sig ⟨S1, .i32⟩) (broadcastInDim S1 ![] bcast_S_S1),
    TRef.binary (.of main_v55 : TRef sig ⟨S1, .i32⟩) (.of main_v58 : TRef sig ⟨S1, .i32⟩) (.of main_v59 : TRef sig ⟨S2, .i32⟩) (fun a b => concatenate S2 0 [⟨S1, a⟩, ⟨S1, b⟩] concatenates_S1_S1_S2_d0),
    TRef.nullary (.of main_cst_10 : TRef sig ⟨S_, .f32⟩) (constant S_ .f32 0x1E3CE508#32),
    TRef.nullary (.of main_cst_11 : TRef sig ⟨S_, .f32⟩) (constant S_ .f32 0x3F800000#32) ]

/-- The reference's lines from uniform numbers to the noise. -/
abbrev refC : List (HloOp τ sig (Elt F)) :=
  [ TRef.unary (.of main_v60 : TRef sig ⟨S1x64x4096, .f32⟩) (.of main_v61 : TRef sig ⟨S1x64x4096, .f32⟩) Host.log,
    TRef.unary (.of main_v61 : TRef sig ⟨S1x64x4096, .f32⟩) (.of main_v62 : TRef sig ⟨S1x64x4096, .f32⟩) Host.negf,
    TRef.unary (.of main_v62 : TRef sig ⟨S1x64x4096, .f32⟩) (.of main_v63 : TRef sig ⟨S1x64x4096, .f32⟩) Host.log,
    TRef.unary (.of main_v63 : TRef sig ⟨S1x64x4096, .f32⟩) (.of main_v64 : TRef sig ⟨S1x64x4096, .f32⟩) Host.negf ]

theorem refA_eq : (hostOps0_3 : List (HloOp τ sig (Elt F))).drop 19 = refA := rfl
theorem refC_eq : (hostOps0_5 : List (HloOp τ sig (Elt F))).take 4 = refC := rfl

end

theorem simA : Sim 98 4 4 16 (kerA (F := F)) refA := by
  simp only [kerA, Cert.KernelIdeal.Gen.hostOps0, List.drop_succ_cons, List.drop_zero, List.take_succ_cons, List.take_zero]
  repeat (first
    | ((with_reducible refine Sim.unary _ _ _ _ _ _ (hf := ?_) (hx := ?_) (hy := ?_) (h := ?_)); rfl; rfl; rfl)
    | ((with_reducible refine Sim.binary _ _ _ _ _ _ _ _ (hf := ?_) (ha := ?_) (hb := ?_) (hy := ?_) (h := ?_)); rfl; rfl; rfl; rfl)
    | ((with_reducible refine Sim.nullary _ _ _ _ (hv := ?_) (hy := ?_) (h := ?_)); rfl; rfl)
    | ((with_reducible refine Sim.reshape _ _ _ _ _ _ _ _ (hx := ?_) (hy := ?_) (h := ?_)); rfl; rfl))
  exact Sim.nil _ _ _

theorem simC : Sim 98 4 283 287 (kerC (F := F)) refC := by
  simp only [kerC, Cert.KernelIdeal.Gen.hostOps0, List.drop_succ_cons, List.drop_zero, List.take_succ_cons, List.take_zero]
  repeat (first
    | ((with_reducible refine Sim.unary _ _ _ _ _ _ (hf := ?_) (hx := ?_) (hy := ?_) (h := ?_)); rfl; rfl; rfl)
    | ((with_reducible refine Sim.binary _ _ _ _ _ _ _ _ (hf := ?_) (ha := ?_) (hb := ?_) (hy := ?_) (h := ?_)); rfl; rfl; rfl; rfl)
    | ((with_reducible refine Sim.nullary _ _ _ _ (hv := ?_) (hy := ?_) (h := ?_)); rfl; rfl)
    | ((with_reducible refine Sim.reshape _ _ _ _ _ _ _ _ (hx := ?_) (hy := ?_) (h := ?_)); rfl; rfl))
  exact Sim.nil _ _ _

set_option maxHeartbeats 4000000 in
theorem simB : Sim 98 4 16 283 (kerB (F := F)) Cert.ReferenceIdeal.Gen.hostOps0_4 := by
  simp only [kerB, Cert.KernelIdeal.Gen.hostOps0, List.drop_succ_cons, List.drop_zero, List.take_succ_cons, List.take_zero]
  repeat (first
    | ((with_reducible refine Sim.unary _ _ _ _ _ _ (hf := ?_) (hx := ?_) (hy := ?_) (h := ?_)); rfl; rfl; rfl)
    | ((with_reducible refine Sim.binary _ _ _ _ _ _ _ _ (hf := ?_) (ha := ?_) (hb := ?_) (hy := ?_) (h := ?_)); rfl; rfl; rfl; rfl)
    | ((with_reducible refine Sim.nullary _ _ _ _ (hv := ?_) (hy := ?_) (h := ?_)); rfl; rfl)
    | ((with_reducible refine Sim.reshape _ _ _ _ _ _ _ _ (hx := ?_) (hy := ?_) (h := ?_)); rfl; rfl))
  exact Sim.nil _ _ _

/-- What the reference's lines leave in the noise. -/
def noiseR (W : Valuation Cert.ReferenceIdeal.τ Cert.ReferenceIdeal.sig (Elt F)) : FVec F Cert.ReferenceIdeal.S1x64x4096 .f32 :=
  after refC (after Cert.ReferenceIdeal.Gen.hostOps0_4 (after refA W)) (Proc.devRef .tc Cert.ReferenceIdeal.main_v64)

theorem noiseOps_eq : (KernelIdeal.noiseOps : List (HloOp Cert.KernelIdeal.τ Cert.KernelIdeal.sig (Elt F)))
    = (kerA ++ kerB ++ kerC) ++ Cert.KernelIdeal.Gen.hostOps0.drop 286 := rfl

/-- The kernel is handed the reference's noise. -/
theorem noise_eq (m : (ℓ : Loc Cert.KernelIdeal.nD Cert.KernelIdeal.τ Cert.KernelIdeal.sig) → Buf (Elt F) ℓ) (c : Dev Cert.KernelIdeal.nD)
    (W : Valuation Cert.ReferenceIdeal.τ Cert.ReferenceIdeal.sig (Elt F)) :
    Cert.KernelIdeal.Gen.V m c Cert.KernelIdeal.main_call0_v15
      = shapeCast Cert.KernelIdeal.S64x4096 (noiseR W : FVec F Cert.KernelIdeal.S1x64x4096 .f32) Cert.KernelIdeal.Gen.shapeCasts_S1x64x4096_S64x4096 := by
  have h := (simA.append simB).append simC (KernelIdeal.startV m c) W (rel_empty _ _ _ _) ⟨Cert.KernelIdeal.S1x64x4096, .f32⟩
    (.of Cert.KernelIdeal.main_call0_v14) (.of Cert.ReferenceIdeal.main_v64) rfl
  rw [after_app, after_app (refA ++ _), after_app refA] at h
  have h2 : after (Cert.KernelIdeal.Gen.hostOps0.drop 286) (after (kerA ++ kerB ++ kerC) (KernelIdeal.startV m c)) (Proc.devRef .tc Cert.KernelIdeal.main_call0_v15)
      = shapeCast Cert.KernelIdeal.S64x4096 (after (kerA ++ kerB ++ kerC) (KernelIdeal.startV m c) (Proc.devRef .tc Cert.KernelIdeal.main_call0_v14) : FVec F Cert.KernelIdeal.S1x64x4096 .f32)
          Cert.KernelIdeal.Gen.shapeCasts_S1x64x4096_S64x4096 := by
    simp only [Cert.KernelIdeal.Gen.hostOps0, List.drop_succ_cons, List.drop_zero]
    generalize after (kerA ++ kerB ++ kerC) (KernelIdeal.startV m c) = Z
    after_reads_simp
    rfl
  show Cert.KernelIdeal.Gen.V0 m c (Proc.devRef .tc Cert.KernelIdeal.main_call0_v15) = _
  rw [KernelIdeal.V0_split, noiseOps_eq, after_app _ (Cert.KernelIdeal.Gen.hostOps0.drop 286), h2, after_app]
  exact congrArg (fun z : FVec F Cert.KernelIdeal.S1x64x4096 .f32 => shapeCast Cert.KernelIdeal.S64x4096 z Cert.KernelIdeal.Gen.shapeCasts_S1x64x4096_S64x4096) h

section
open Cert.ReferenceIdeal Cert.ReferenceIdeal.Gen

theorem minval_pos : (0 : EReal) < Ideal.ofBits .f32 0x1E3CE508#32 := by
  have h : Ideal.ofBits .f32 0x1E3CE508#32 = (((12379400 : ℝ) * 2 ^ (-90 : ℤ) : ℝ) : EReal) := by
    simp [Ideal.ofBits, Ideal.ieee, -EReal.coe_mul]
  rw [h]
  exact EReal.coe_pos.mpr (by positivity)

theorem refC_v64 (W : Valuation τ sig (Elt F)) : after refC W (Proc.devRef .tc main_v64)
    = Host.negf (Host.log (Host.negf (Host.log (W (Proc.devRef .tc main_v60) : FVec F S1x64x4096 .f32)))) := by
  after_reads_simp
  rfl

theorem refA_cst (W : Valuation τ sig (Elt F)) : after refA W (Proc.devRef .tc main_cst_10) = constant S_ .f32 0x1E3CE508#32 := by
  after_reads_simp
  rfl

theorem uniform_v60 (W : Valuation τ sig (Elt F)) : ∃ y : FVec F S1x64x4096 .f32, after hostOps0_4 W (Proc.devRef .tc main_v60)
    = maximumf (broadcastInDim S1x64x4096 ![0, 1, 2] bcast_S1x1x1_S1x64x4096_0_1_2 (broadcastInDim S1x1x1 ![] bcast_S_S1x1x1 (W (Proc.devRef .tc main_cst_10) : FVec F S_ .f32))) y := by
  have h0 : (hostOps0_4 : List (HloOp τ sig (Elt F))) = hostOps0_4.take 3 ++ ((hostOps0_4.drop 3).take 262 ++ hostOps0_4.drop 265) := rfl
  have h1 : after (hostOps0_4.take 3) W (Proc.devRef .tc main_call3_v2) = broadcastInDim S1x1x1 ![] bcast_S_S1x1x1 (W (Proc.devRef .tc main_cst_10) : FVec F S_ .f32) := by
    simp only [hostOps0_4, List.take_succ_cons, List.take_zero]
    after_reads_simp
    rfl
  have h2 : ∀ Z : Valuation τ sig (Elt F), after ((hostOps0_4.drop 3).take 262) Z (Proc.devRef .tc main_call3_v2) = Z (Proc.devRef .tc main_call3_v2) := fun Z =>
    after_of_forall_not_mem (b := Proc.devRef .tc main_call3_v2) _ _ (List.forall_iff_forall_mem.mp (by
      simp only [hostOps0_4, List.drop_succ_cons, List.drop_zero, List.take_succ_cons, List.take_zero, List.Forall, nullary_writes, unary_writes, binary_writes, reshape_writes, Finset.mem_singleton]
      repeat' apply And.intro
      all_goals exact devRef_ne_of_ne (by decide)))
  rw [h0, after_app, after_app]
  refine ⟨after ((hostOps0_4.drop 3).take 262) (after (hostOps0_4.take 3) W) (Proc.devRef .tc main_call3_v36), ?_⟩
  rw [← h1, ← h2 (after (hostOps0_4.take 3) W)]
  generalize after ((hostOps0_4.drop 3).take 262) (after (hostOps0_4.take 3) W) = Z
  simp only [hostOps0_4, List.drop_succ_cons, List.drop_zero]
  after_reads_simp
  rfl

open Cert.Proof.Math

theorem bot_lt_log {u : EReal} (hu : 0 < u) : ⊥ < Ideal.log u := by
  induction u with
  | bot => exact absurd hu (by simp)
  | top => exact bot_lt_top
  | coe r =>
    rw [log_coe, if_neg (by have : (0 : ℝ) < r := by exact_mod_cast hu
                            linarith)]
    exact EReal.bot_lt_coe _

/-- The noise is no minus infinity. -/
theorem noise_bot_lt (W : Valuation τ sig (Elt Ideal)) (i : S1x64x4096.Idx) : ⊥ < (noiseR W i : EReal) := by
  obtain ⟨y, hy⟩ := uniform_v60 (after refA W)
  have h : noiseR W i = -(Ideal.log (-(Ideal.log (max (Ideal.ofBits .f32 0x1E3CE508#32) (y i))))) := by
    unfold noiseR
    rw [refC_v64, hy, refA_cst]
    rfl
  rw [h]
  have hu : 0 < max (Ideal.ofBits .f32 0x1E3CE508#32) (y i) := lt_max_of_lt_left minval_pos
  generalize max (Ideal.ofBits .f32 0x1E3CE508#32) (y i) = u at hu
  have h1 : ⊥ < Ideal.log u := by
    exact bot_lt_log hu
  have h2 : Ideal.log (-(Ideal.log u)) < ⊤ := log_lt_top (lt_top_iff_ne_top.mpr fun e => h1.ne' (by simpa using e))
  exact bot_lt_iff_ne_bot.mpr fun e => h2.ne (by simpa using e)

end

end Cert.Proof.Noise
-- ==== Proof.RI.Mask.lean ====
module

public import proofs.«01_k».proof.Proof.RI.Post
public import proofs.«01_k».proof.Proof.Noise
public import proofs.«01_k».proof.Proof.Pick

@[expose] public section
set_option maxRecDepth 16384
noncomputable section
namespace Cert.Proof.Reference
open Cert.ReferenceIdeal Cert.ReferenceIdeal.Gen
open Idealize.ShloMosaic Idealize.ShloMosaic.Pointwise Idealize.ShloMosaic.StableHlo
open Cert.Proof.Pick

/-! The mask of the reference: the places of the 32 largest perturbed scores of each row, scattered as ones. -/

def sumR (f : FVec Ideal S64x4096 .f32) (z : FVec Ideal S1x64x4096 .f32) : FVec Ideal S1x64x4096 .f32 :=
  addf (broadcastInDim S1x64x4096 ![1, 2] bcast_S64x4096_S1x64x4096_1_2 f) z
def placeR (x : FVec Ideal S1x64x4096 .f32) : IVec S1x64x32 32 :=
  (Host.topK S1x64x32 2 (FloatOps.cmpfTotal .gt) x sliceFits_S1x64x4096_S1x64x32).2
def wrapR (s : Shape) (b : S_.BroadcastsInDim s (![] : Fin 0 → Fin s.rank)) (n : BitVec 32) (i : IVec s 32) : IVec s 32 :=
  select (cmpi .slt i (broadcastInDim s ![] b (constantI S_ 32 0#32))) (addi i (broadcastInDim s ![] b (constantI S_ 32 n))) i
def landR (i : IVec S1x64x32 32) : IVec S1x64x32x3 32 :=
  concatenate S1x64x32x3 3
    [⟨S1x64x32x1, broadcastInDim S1x64x32x1 ![0, 1, 2] bcast_S1x64x32_S1x64x32x1_0_1_2 (broadcastInDim S1x64x32 ![0, 1, 2] bcast_S1x1x1_S1x64x32_0_1_2 (wrapR S1x1x1 bcast_S_S1x1x1 1#32 (broadcastInDim S1x1x1 ![0] bcast_S1_S1x1x1_0 (iotaInDim S1 32 0))))⟩,
     ⟨S1x64x32x1, broadcastInDim S1x64x32x1 ![0, 1, 2] bcast_S1x64x32_S1x64x32x1_0_1_2 (broadcastInDim S1x64x32 ![0, 1, 2] bcast_S1x64x1_S1x64x32_0_1_2 (wrapR S1x64x1 bcast_S_S1x64x1 64#32 (broadcastInDim S1x64x1 ![1] bcast_S64_S1x64x1_1 (iotaInDim S64 32 0))))⟩,
     ⟨S1x64x32x1, broadcastInDim S1x64x32x1 ![0, 1, 2] bcast_S1x64x32_S1x64x32x1_0_1_2 (wrapR S1x64x32 bcast_S_S1x64x32 4096#32 i)⟩]
    concatenates_S1x64x32x1_S1x64x32x1_S1x64x32x1_S1x64x32x3_d3
def khotR (x : FVec Ideal S1x64x4096 .f32) : FVec Ideal S1x64x4096 .f32 :=
  Host.scatter scatter_S1x64x4096_S1x64x32x3_S1x64x32_n_012_012_3 (fun _ b => b)
    (broadcastInDim S1x64x4096 ![] bcast_S_S1x64x4096 (constant S_ .f32 0x00000000#32)) (landR (placeR x))
    (broadcastInDim S1x64x32 ![] bcast_S_S1x64x32 (constant S_ .f32 0x3F800000#32))

theorem along_ix3 (r : Fin 64) (q t : Fin 4096) (h : 2 < S1x64x4096.rank) : Shape.Idx.along (s := S1x64x4096) (ix3 0 r q) ⟨2, h⟩ t = ix3 0 r t := by
  unfold Shape.Idx.along
  funext b
  fin_cases b <;> rfl

theorem cmp_before (x : FVec Ideal S1x64x4096 .f32) (r : Fin 64) :
    (fun a b : Fin 4096 => (FloatOps.cmpfTotal (F := Ideal) .gt (x (ix3 0 r a)) (x (ix3 0 r b)) == 1#1)) = before fun t => x (ix3 0 r t) := by
  funext a b
  unfold before
  rw [show FloatOps.cmpfTotal (F := Ideal) .gt (x (ix3 0 r a)) (x (ix3 0 r b)) = BitVec.ofBool (decide ((x (ix3 0 r b) : EReal) < x (ix3 0 r a))) from rfl]
  cases decide ((x (ix3 0 r b) : EReal) < x (ix3 0 r a)) <;> rfl

theorem sort_at (x : FVec Ideal S1x64x4096 .f32) (y : IVec S1x64x4096 32) (r : Fin 64) (k : Fin 4096) :
    (Host.sort2 S1x64x4096 2 (fun l r => FloatOps.cmpfTotal (F := Ideal) .gt l.1 r.1) x y).2 (ix3 0 r k) =
      y (ix3 0 r (sortedFrom (before fun t => x (ix3 0 r t)) k)) := by
  rw [← cmp_before]
  unfold Host.sort2
  rw [dif_pos (by decide)]
  have h2 : 2 < S1x64x4096.rank := by decide
  have h : (fun a b : Fin 4096 => (FloatOps.cmpfTotal (F := Ideal) .gt (x (Shape.Idx.along (s := S1x64x4096) (ix3 0 r k) ⟨2, h2⟩ a)) (x (Shape.Idx.along (s := S1x64x4096) (ix3 0 r k) ⟨2, h2⟩ b)) == 1#1)) =
      fun a b : Fin 4096 => (FloatOps.cmpfTotal (F := Ideal) .gt (x (ix3 0 r a)) (x (ix3 0 r b)) == 1#1) := by
    funext a b
    rw [along_ix3, along_ix3]
  exact (congrArg y (along_ix3 r k _ _)).trans (congrArg (fun B => y (ix3 0 r (sortedFrom B k))) h)

theorem placeR_at (x : FVec Ideal S1x64x4096 .f32) (r : Fin 64) (q : Fin 32) :
    placeR x (ix3 0 r q) = BitVec.ofNat 32 (sortedFrom (before fun t => x (ix3 0 r t)) ⟨q.val, by omega⟩).val := by
  unfold placeR Host.topK
  pointwise []
  exact sort_at x _ r _

theorem wrapR_at (s : Shape) (b : S_.BroadcastsInDim s (![] : Fin 0 → Fin s.rank)) (n : BitVec 32) (i : IVec s 32) (k : s.Idx) (h : (i k).toNat < 2 ^ 31) : wrapR s b n i k = i k :=
  Routing.wrap_of_lt _ _ h

theorem landR_0 (i : IVec S1x64x32 32) (r : Fin 64) (q : Fin 32) : landR i (ix4 0 r q 0) = 0#32 := by
  unfold landR
  pointwise []
  rw [wrapR_at] <;> pointwise []
  decide
theorem landR_1 (i : IVec S1x64x32 32) (r : Fin 64) (q : Fin 32) : landR i (ix4 0 r q 1) = BitVec.ofNat 32 r.val := by
  unfold landR
  pointwise []
  have := r.isLt
  rw [wrapR_at] <;> pointwise []
  rw [BitVec.toNat_ofNat]
  omega
theorem landR_2 (i : IVec S1x64x32 32) (r : Fin 64) (q : Fin 32) (h : (i (ix3 0 r q)).toNat < 2 ^ 31) : landR i (ix4 0 r q 2) = i (ix3 0 r q) := by
  unfold landR
  pointwise []
  rw [wrapR_at _ _ _ _ _ h]

theorem start_at (l : IVec S1x64x32x3 32) (r : Fin 64) (q : Fin 32) (c : Fin 3) :
    scatter_S1x64x4096_S1x64x32x3_S1x64x32_n_012_012_3.start (ix3 0 r q) l c = (l (ix4 0 r q c)).toInt := by
  unfold ScatterDims.start
  rw [dif_pos (by fin_cases c <;> decide)]
  congr 2
  funext b
  apply Fin.ext
  fin_cases c <;> fin_cases b <;> rfl

theorem land_iff (l : IVec S1x64x32x3 32) (r' r : Fin 64) (q : Fin 32) (j : Fin 4096) :
    scatter_S1x64x4096_S1x64x32x3_S1x64x32_n_012_012_3.resultIdx? (ix3 0 r' q) l = some (ix3 0 r j) ↔
      (l (ix4 0 r' q 0)).toInt = 0 ∧ (l (ix4 0 r' q 1)).toInt = r.val ∧ (l (ix4 0 r' q 2)).toInt = j.val := by
  rw [Routing.resultIdx?_eq_some]
  have w : ∀ c, scatter_S1x64x4096_S1x64x32x3_S1x64x32_n_012_012_3.window (ix3 0 r' q) c = 0 := by
    intro c
    fin_cases c <;> rfl
  constructor
  · intro h
    have h0 := h 0
    have h1 := h 1
    have h2 := h 2
    rw [w, start_at] at h0 h1 h2
    exact ⟨by simpa using h0, by simpa using h1, by simpa using h2⟩
  · rintro ⟨h0, h1, h2⟩ c
    rw [w, start_at]
    fin_cases c
    · simpa using h0
    · simpa using h1
    · simpa using h2

abbrev opsA : List (HloOp τ sig (Elt Ideal)) := (hostOps0_5.drop 4).take 36
abbrev opsB : List (HloOp τ sig (Elt Ideal)) := hostOps0_5.drop 40

theorem opsA_v89 (V : Valuation τ sig (Elt Ideal)) : after opsA V (Proc.devRef .tc main_v89) = broadcastInDim S1x64x32x1 ![0, 1, 2] bcast_S1x64x32_S1x64x32x1_0_1_2 (broadcastInDim S1x64x32 ![0, 1, 2] bcast_S1x1x1_S1x64x32_0_1_2 (wrapR S1x1x1 bcast_S_S1x1x1 1#32 (broadcastInDim S1x1x1 ![0] bcast_S1_S1x1x1_0 (iotaInDim S1 32 0)))) := by
  after_reads_simp
  unfold wrapR
  with_reducible rfl
theorem opsA_v90 (V : Valuation τ sig (Elt Ideal)) : after opsA V (Proc.devRef .tc main_v90) = broadcastInDim S1x64x32x1 ![0, 1, 2] bcast_S1x64x32_S1x64x32x1_0_1_2 (broadcastInDim S1x64x32 ![0, 1, 2] bcast_S1x64x1_S1x64x32_0_1_2 (wrapR S1x64x1 bcast_S_S1x64x1 64#32 (broadcastInDim S1x64x1 ![1] bcast_S64_S1x64x1_1 (iotaInDim S64 32 0)))) := by
  after_reads_simp
  unfold wrapR
  with_reducible rfl
theorem opsA_v91 (V : Valuation τ sig (Elt Ideal)) : after opsA V (Proc.devRef .tc main_v91) = broadcastInDim S1x64x32x1 ![0, 1, 2] bcast_S1x64x32_S1x64x32x1_0_1_2 (wrapR S1x64x32 bcast_S_S1x64x32 4096#32 (placeR (sumR (V (Proc.devRef .tc main_v1)) (V (Proc.devRef .tc main_v64))))) := by
  after_reads_simp
  unfold wrapR placeR sumR
  with_reducible rfl
theorem opsA_v71 (V : Valuation τ sig (Elt Ideal)) : after opsA V (Proc.devRef .tc main_v71) = broadcastInDim S1x64x4096 ![] bcast_S_S1x64x4096 (constant (F := Ideal) S_ .f32 0x00000000#32) := by
  after_reads_simp
theorem opsA_v52 (V : Valuation τ sig (Elt Ideal)) : after opsA V (Proc.devRef .tc main_v52) = V (Proc.devRef .tc main_v52) := by
  after_reads_simp

/-- The reference's first result from the mask before its gradient is routed and the marginals. -/
def outR (k : FVec Ideal S1x64x4096 .f32) (x : FVec Ideal S64x4096 .f32) : FVec Ideal S1x32x4096x2 .f32 :=
  transpose S1x32x4096x2 [0, 1, 3, 2] (shapeCast S1x32x2x4096 (addf (subf k (broadcastInDim S1x64x4096 ![1, 2] bcast_S64x4096_S1x64x4096_1_2 x)) (broadcastInDim S1x64x4096 ![1, 2] bcast_S64x4096_S1x64x4096_1_2 x)) shapeCasts_S1x64x4096_S1x32x2x4096) transposes_S1x32x2x4096_S1x32x4096x2_0_1_3_2
def scatR (z : FVec Ideal S1x64x4096 .f32) (a b c : IVec S1x64x32x1 32) : FVec Ideal S1x64x4096 .f32 :=
  Host.scatter scatter_S1x64x4096_S1x64x32x3_S1x64x32_n_012_012_3 (fun _ b => b) z (concatenate S1x64x32x3 3 [⟨S1x64x32x1, a⟩, ⟨S1x64x32x1, b⟩, ⟨S1x64x32x1, c⟩] concatenates_S1x64x32x1_S1x64x32x1_S1x64x32x1_S1x64x32x3_d3)
    (broadcastInDim S1x64x32 ![] bcast_S_S1x64x32 (constant S_ .f32 0x3F800000#32))

theorem opsB_v100 (V : Valuation τ sig (Elt Ideal)) : after opsB V (Proc.devRef .tc main_v100) = outR (scatR (V (Proc.devRef .tc main_v71)) (V (Proc.devRef .tc main_v89)) (V (Proc.devRef .tc main_v90)) (V (Proc.devRef .tc main_v91))) (V (Proc.devRef .tc main_v52)) := by
  after_reads_simp
  unfold outR scatR
  rfl
theorem opsB_v102 (V : Valuation τ sig (Elt Ideal)) : after opsB V (Proc.devRef .tc main_v102) = transpose S32x4096x2 [0, 2, 1] (shapeCast S32x2x4096 (V (Proc.devRef .tc main_v52)) shapeCasts_S64x4096_S32x2x4096) transposes_S32x2x4096_S32x4096x2_0_2_1 := by
  after_reads_simp
  rfl

open Classical in
/-- The scattered mask holds one at the first 32 places of each sorted row and zero elsewhere. -/
theorem khotR_at (x : FVec Ideal S1x64x4096 .f32) (r : Fin 64) (j : Fin 4096) :
    (khotR x (ix3 0 r j) : EReal) = if taken (fun t => x (ix3 0 r t)) 32 j then 1 else 0 := by
  have hs : ∀ (r' : Fin 64) (q : Fin 32), (placeR x (ix3 0 r' q)).toNat = (sortedFrom (before fun t => x (ix3 0 r' t)) ⟨q.val, by omega⟩).val := by
    intro r' q
    rw [placeR_at, BitVec.toNat_ofNat]
    have := (sortedFrom (before fun t => x (ix3 0 r' t)) ⟨q.val, by omega⟩).isLt
    omega
  have hl : ∀ (r' : Fin 64) (q : Fin 32), scatter_S1x64x4096_S1x64x32x3_S1x64x32_n_012_012_3.resultIdx? (ix3 0 r' q) (landR (placeR x)) = some (ix3 0 r j) ↔
      r' = r ∧ sortedFrom (before fun t => x (ix3 0 r' t)) ⟨q.val, by omega⟩ = j := by
    intro r' q
    have h1 := hs r' q
    have h2 := (sortedFrom (before fun t => x (ix3 0 r' t)) ⟨q.val, by omega⟩).isLt
    have h3 := r'.isLt
    have h4 : (BitVec.ofNat 32 r'.val).toNat = r'.val := by rw [BitVec.toNat_ofNat]; omega
    rw [land_iff, landR_0, landR_1, landR_2 _ _ _ (by omega),
      BitVec.toInt_eq_toNat_of_lt (x := BitVec.ofNat 32 r'.val) (by omega), BitVec.toInt_eq_toNat_of_lt (x := placeR x _) (by omega), h1, h4, Fin.ext_iff, Fin.ext_iff]
    simp only [BitVec.toInt_zero, true_and, Nat.cast_inj]
  unfold khotR
  by_cases h : taken (fun t => x (ix3 0 r t)) 32 j
  · rw [if_pos h]
    obtain ⟨i, hi, e⟩ := h
    refine Routing.scatter_set_hit _ _ _ _ _ _ (fun k _ => ?_) (ix3 0 r ⟨i.val, hi⟩) ((hl r ⟨i.val, hi⟩).mpr ⟨rfl, e⟩)
    exact Ideal.ofBits_one_f32
  · rw [if_neg h]
    refine (Routing.scatter_set_miss _ _ _ _ _ fun k hk => h ?_).trans ?_
    · have e : k = ix3 0 (k 1) (k 2) :=
        (eq_ix3 k).trans (congrArg (fun a => ix3 a (k 1) (k 2)) (Subsingleton.elim (α := Fin 1) _ _))
      rw [e] at hk
      obtain ⟨h1, h2⟩ := (hl _ _).mp hk
      rw [h1] at h2
      exact ⟨⟨(k 2).val, lt_trans (k 2).isLt (by decide)⟩, (k 2).isLt, h2⟩
    · exact Ideal.ofBits_zero_f32

end Cert.Proof.Reference
-- ==== Proof.RI.Final.lean ====
module

public import proofs.«01_k».proof.Proof.RI.Mask

@[expose] public section
set_option maxRecDepth 16384
noncomputable section
namespace Cert.Proof.Reference
open Cert.ReferenceIdeal Cert.ReferenceIdeal.Gen Cert.ReferenceIdeal.Value
open Idealize.ShloMosaic Idealize.ShloMosaic.Pointwise Idealize.ShloMosaic.StableHlo Idealize.ShloMosaic.TcCoe
open Cert.Proof.Noise Cert.Proof.Sim

/-! What the reference leaves in its two results. -/

variable (m : (ℓ : Loc nD τ sig) → Buf (Elt Ideal) ℓ) (c : Dev nD)

/-- The contents before the noise is drawn. -/
def startV : Valuation τ sig (Elt Ideal) := after (hostOps0_3.take 19) (after hostOps0_2 (after hostOps0_1 (exitV m c)))

theorem split_at (l : List (HloOp τ sig (Elt Ideal))) (k : ℕ) (V : Valuation τ sig (Elt Ideal)) :
    after l V = after (l.drop k) (after (l.take k) V) := by
  rw [← after_app, List.take_append_drop]

theorem mid_split : midV m c = after refA (startV m c) := by
  unfold midV startV
  rw [split_at hostOps0_3 19, refA_eq]

theorem noise_keep (b : Ref sig .tc) (h : b = main_v1 ∨ b = main_v52) (V : Valuation τ sig (Elt Ideal)) :
    after refC (after hostOps0_4 V) (Proc.devRef .tc b) = V (Proc.devRef .tc b) := by
  rcases h with rfl | rfl <;> after_reads_simp

theorem post_split (V : Valuation τ sig (Elt Ideal)) :
    after hostOps0_5 V = after opsB (after opsA (after refC V)) := by
  rw [split_at hostOps0_5 4, refC_eq, split_at (hostOps0_5.drop 4) 36, List.drop_drop]

theorem final_split : afterL postI (exitV m c) = after hostOps0_5 (after hostOps0_4 (midV m c)) := by
  unfold midV
  simp only [postI, afterL_cons, afterL_nil]

/-- The reference's second result. -/
theorem final_v102 : afterL postI (exitV m c) (Proc.devRef .tc main_v102)
    = transpose S32x4096x2 [0, 2, 1] (shapeCast S32x2x4096 (midV m c (Proc.devRef .tc main_v52)) shapeCasts_S64x4096_S32x2x4096) transposes_S32x2x4096_S32x4096x2_0_2_1 := by
  rw [final_split, post_split, opsB_v102, opsA_v52, noise_keep main_v52 (.inr rfl)]

/-- The reference's first result. -/
theorem final_v100 : afterL postI (exitV m c) (Proc.devRef .tc main_v100)
    = outR (khotR (sumR (midV m c (Proc.devRef .tc main_v1)) (noiseR (startV m c)))) (midV m c (Proc.devRef .tc main_v52)) := by
  rw [final_split, post_split, opsB_v100, opsA_v52, opsA_v71, opsA_v89, opsA_v90, opsA_v91, noise_keep main_v52 (.inr rfl), noise_keep main_v1 (.inl rfl)]
  unfold noiseR
  rw [← mid_split]
  rfl

end Cert.Proof.Reference
-- ==== Proof.Agree.lean ====
/- The two programs' results are the same arrays. -/
module

public import proofs.«01_k».proof.Proof.PI.Mask
public import proofs.«01_k».proof.Proof.PI.Result
public import proofs.«01_k».proof.Proof.RI.Final

@[expose] public section
set_option maxRecDepth 16384
noncomputable section
namespace Cert.Proof.Agree
open Idealize.ShloMosaic Idealize.ShloMosaic.Pointwise
open Cert.Proof.Math Cert.Proof.Pick Cert.Proof.Noise
open Cert.KernelIdeal Cert.KernelIdeal.Gen

/-- The marginals: the kernel's, one row per subset, against the reference's formula. -/
theorem marg_eq (f : FVec Ideal S64x4096 .f32) (r : Fin 64) (n : Fin 4096) :
    (transpose S64x4096 [1, 0] (KernelIdeal.margV (F := Ideal) (transpose S4096x64 [1, 0] f transposes_S64x4096_S4096x64_1_0)) transposes_S4096x64_S64x4096_1_0 (ix2 r n) : EReal)
      = marg (Reference.dn f r) (Reference.up f r) n.val := by
  pointwise []
  refine (KernelIdeal.margV_at _ n r).trans ?_
  congr 1
  · funext t
    unfold KernelIdeal.col Reference.dn
    pointwise []
  · funext t
    unfold KernelIdeal.rev Reference.up
    pointwise []

open Classical in
/-- An entry of the mask: the kernel's, after its rounds, against the reference's sort. -/
theorem mask_at_eq (f : FVec Ideal S64x4096 .f32) (z : FVec Ideal S1x64x4096 .f32) (hf : ∀ i, (⊥ : EReal) < f i) (hz : ∀ i, (⊥ : EReal) < z i)
    (r : Fin 64) (j : Fin 4096) :
    broadcastInDim S1x64x4096 ![1, 2] bcast_S64x4096_S1x64x4096_1_2 (KernelIdeal.maskV (F := Ideal) f (shapeCast S64x4096 z shapeCasts_S1x64x4096_S64x4096)) (ix3 0 r j)
      = Reference.khotR (Reference.sumR f z) (ix3 0 r j) := by
  have hz' : ∀ (r : Fin 64) t, shapeCast S64x4096 z shapeCasts_S1x64x4096_S64x4096 (ix2 r t) = z (ix3 0 r t) := fun r t => by
    pointwise []
  have hs : ∀ (r : Fin 64) t, Reference.sumR f z (ix3 0 r t) = (f (ix2 r t) + z (ix3 0 r t) : EReal) := fun r t => by
    unfold Reference.sumR
    pointwise []
  have h1 : (broadcastInDim S1x64x4096 ![1, 2] bcast_S64x4096_S1x64x4096_1_2 (KernelIdeal.maskV (F := Ideal) f (shapeCast S64x4096 z shapeCasts_S1x64x4096_S64x4096)) (ix3 0 r j) : EReal)
      = if taken (fun t => (f (ix2 r t) + z (ix3 0 r t) : EReal)) 32 j then (1 : EReal) else 0 := by
    pointwise []
    refine (KernelIdeal.mask_at _ _ r (fun t => ?_) j).trans ?_
    · rw [hz']
      exact EReal.bot_lt_add_iff.mpr ⟨hf _, hz _⟩
    · simp only [hz']
  have h2 : (Reference.khotR (Reference.sumR f z) (ix3 0 r j) : EReal)
      = if taken (fun t => (f (ix2 r t) + z (ix3 0 r t) : EReal)) 32 j then (1 : EReal) else 0 := by
    refine (Reference.khotR_at _ r j).trans ?_
    simp only [hs]
  exact h1.trans h2.symm

theorem mask_eq (f : FVec Ideal S64x4096 .f32) (z : FVec Ideal S1x64x4096 .f32) (hf : ∀ i, (⊥ : EReal) < f i) (hz : ∀ i, (⊥ : EReal) < z i) :
    broadcastInDim S1x64x4096 ![1, 2] bcast_S64x4096_S1x64x4096_1_2 (KernelIdeal.maskV (F := Ideal) f (shapeCast S64x4096 z shapeCasts_S1x64x4096_S64x4096))
      = Reference.khotR (Reference.sumR f z) := by
  funext i
  have e : i = ix3 0 (i 1) (i 2) := (eq_ix3 i).trans (congrArg (fun a => ix3 a (i 1) (i 2)) (Subsingleton.elim (α := Fin 1) _ _))
  rw [e]
  exact mask_at_eq f z hf hz _ _

/-- The scores flattened hold the scores. -/
theorem flat_mem (x : FVec Ideal S32x4096x2 .f32) (P : EReal → Prop) (h : ∀ i, P (x i)) (i : S64x4096.Idx) : P (KernelIdeal.flatK x i) := by
  unfold KernelIdeal.flatK shapeCast transpose
  exact h _

variable (m : (ℓ : Loc nD τ sig) → Buf (Elt Ideal) ℓ) (c : Dev nD)
variable (m' : (ℓ : Loc Cert.ReferenceIdeal.nD Cert.ReferenceIdeal.τ Cert.ReferenceIdeal.sig) → Buf (Elt Ideal) ℓ)

/-- The marginals before the last reshaping. -/
theorem margs (x : FVec Ideal S32x4096x2 .f32) (hm : m ((c.tc : Thread nD τ).loc main_arg0) = x)
    (hm' : m' ((c.tc : Thread Cert.ReferenceIdeal.nD Cert.ReferenceIdeal.τ).loc Cert.ReferenceIdeal.main_arg0) = x) (hx : ∀ i, (⊥ : EReal) < x i) :
    (transpose S64x4096 [1, 0] (KernelIdeal.margV (F := Ideal) (V m c main_call0_v2)) transposes_S4096x64_S64x4096_1_0 : FVec Ideal S64x4096 .f32)
      = Reference.midV m' c (Proc.devRef .tc Cert.ReferenceIdeal.main_v52) := by
  have hx' := flat_mem x (⊥ < ·) hx
  rw [KernelIdeal.V_v2, hm]
  funext i
  rw [eq_ix2 i]
  refine (marg_eq _ _ _).trans (Eq.trans ?_ (Reference.mid_v52 m' c (by rw [hm']; exact hx') _ _).symm)
  rw [hm']
  rfl

/-- The masks before their gradients are routed. -/
theorem masks (x : FVec Ideal S32x4096x2 .f32) (hm : m ((c.tc : Thread nD τ).loc main_arg0) = x)
    (hm' : m' ((c.tc : Thread Cert.ReferenceIdeal.nD Cert.ReferenceIdeal.τ).loc Cert.ReferenceIdeal.main_arg0) = x) (hx : ∀ i, (⊥ : EReal) < x i) :
    broadcastInDim S1x64x4096 ![1, 2] bcast_S64x4096_S1x64x4096_1_2 (KernelIdeal.maskV (F := Ideal) (V m c main_call0_v1) (V m c main_call0_v15))
      = Reference.khotR (Reference.sumR (Reference.midV m' c (Proc.devRef .tc Cert.ReferenceIdeal.main_v1)) (noiseR (Reference.startV m' c))) := by
  rw [KernelIdeal.V_v1, hm, noise_eq m c (Reference.startV m' c), Reference.mid_v1, hm']
  exact mask_eq _ _ (flat_mem x (⊥ < ·) hx) (noise_bot_lt _)

/-- The two programs' results. -/
theorem results (x : FVec Ideal S32x4096x2 .f32) (hm : m ((c.tc : Thread nD τ).loc main_arg0) = x)
    (hm' : m' ((c.tc : Thread Cert.ReferenceIdeal.nD Cert.ReferenceIdeal.τ).loc Cert.ReferenceIdeal.main_arg0) = x)
    (hx : ∀ i, (⊥ : EReal) < x i) :
    StableHlo.afterL Cert.ReferenceIdeal.Value.postI (Reference.exitV m' c) (Proc.devRef .tc Cert.ReferenceIdeal.main_v100)
        = Pipeline.afterTail₀ cfgs (KernelIdeal.dats m) 0 (V0 m) [hostOps1] c main_v0_0
      ∧ StableHlo.afterL Cert.ReferenceIdeal.Value.postI (Reference.exitV m' c) (Proc.devRef .tc Cert.ReferenceIdeal.main_v102)
        = Pipeline.afterTail₀ cfgs (KernelIdeal.dats m) 0 (V0 m) [hostOps1] c main_v0_1 := by
  rw [KernelIdeal.W_v0_0, KernelIdeal.W_v0_1, masks m c m' x hm hm' hx, margs m c m' x hm hm' hx,
    Reference.final_v100, Reference.final_v102]
  exact ⟨rfl, rfl⟩

end Cert.Proof.Agree
-- ==== Proof.lean ====
/- The certificate: the programs' frames, the idealization and what the kernel computes, put together. -/
module

public import proofs.«01_k».proof.Defs
public import proofs.«01_k».proof.Proof.P.Body
public import proofs.«01_k».proof.Proof.PI.Body
public import proofs.«01_k».proof.Proof.RI.Frame
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem

/-- The idealized kernel's frame: it terminates, its argument unchanged and every counter at zero. -/
theorem frameKernelIdeal (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) ∧ r.2.sem = fun _ => 0) :=
  (θ_run Cert.KernelIdeal.defs _ _).mono
    (fun _ h => ⟨fun c => ((h.1 c).2 Cert.KernelIdeal.main_arg0 (Pipeline.mem_restRefs_of Cert.KernelIdeal.main_arg0 (by decide) (by decide))).trans
      (Cert.KernelIdeal.Gen.W_main_arg0 m (KernelIdeal.dats m) c), h.2⟩) (KernelIdeal.run_main m g)

theorem preFacts : Cert.Pre_above_neg_inf.Facts := ⟨by decide⟩

/-- What the precondition says of a score. -/
theorem pre_at (x : FVec Ideal Cert.Pre_above_neg_inf.S32x4096x2 .f32)
    (h : (haveI := preFacts; Cert.Pre_above_neg_inf.fn (F := Ideal) x) = fun _ => 1#1) (i : Cert.Pre_above_neg_inf.S32x4096x2.Idx) :
    (⊥ : EReal) < x i := by
  have h' : BitVec.ofBool (decide (Ideal.ofBits .f32 0xFF800000#32 < (x i : EReal))) = 1#1 := congrFun h i
  rw [Reference.ofBits_neg_inf] at h'
  by_cases h1 : (⊥ : EReal) < x i <;> simp_all

theorem algebraic : Cert.algebraic_KernelIdeal_ReferenceIdeal_pre_above_neg_inf (hKernelIdeal := Cert.KernelIdeal.Gen.facts)
    (hReferenceIdeal := Cert.ReferenceIdeal.Gen.facts) (hPre_above_neg_inf := preFacts) := by
  intro m g m' g' hpre hm
  have hR := fun c => Agree.results m c m' _ rfl (hm c) (pre_at _ (hpre c))
  refine ⟨fun c => Pipeline.afterTail₀ Cert.KernelIdeal.cfgs (KernelIdeal.dats m) 0 (Cert.KernelIdeal.Gen.V0 m) [Cert.KernelIdeal.Gen.hostOps1] c Cert.KernelIdeal.main_v0_0,
    fun c => Pipeline.afterTail₀ Cert.KernelIdeal.cfgs (KernelIdeal.dats m) 0 (Cert.KernelIdeal.Gen.V0 m) [Cert.KernelIdeal.Gen.hostOps1] c Cert.KernelIdeal.main_v0_1, ?_, ?_⟩
  · exact (θ_run Cert.KernelIdeal.defs _ _).mono (fun _ h c =>
      ⟨(h.1 c).2 Cert.KernelIdeal.main_v0_0 (Pipeline.mem_restRefs_of Cert.KernelIdeal.main_v0_0 (by decide) (by decide)),
        (h.1 c).2 Cert.KernelIdeal.main_v0_1 (Pipeline.mem_restRefs_of Cert.KernelIdeal.main_v0_1 (by decide) (by decide)),
        ((h.1 c).2 Cert.KernelIdeal.main_arg0 (Pipeline.mem_restRefs_of Cert.KernelIdeal.main_arg0 (by decide) (by decide))).trans
          (Cert.KernelIdeal.Gen.W_main_arg0 m (KernelIdeal.dats m) c)⟩) (KernelIdeal.run_main m g)
  · exact (θ_run Cert.ReferenceIdeal.defs _ _).mono (fun _ h c =>
      ⟨(h.1 c Cert.ReferenceIdeal.main_v100 rfl).trans (hR c).1, (h.1 c Cert.ReferenceIdeal.main_v102 rfl).trans (hR c).2,
        (h.1 c Cert.ReferenceIdeal.main_arg0 rfl).trans (Reference.final_arg0 m' c)⟩) (Reference.run_main m' g')

theorem claim : Cert.Claim := ⟨Cert.Kernel.Gen.facts, Cert.KernelIdeal.Gen.facts, Cert.ReferenceIdeal.Gen.facts, preFacts,
  fun m g _ => Kernel.run_main m g,
  fun m g _ => frameKernelIdeal m g,
  fun m g _ => frameKernelIdeal m g,
  fun m g _ => Reference.frame m g,
  fun m g _ => Reference.frame m g,
  IdealRules.named_const.statement Cert.KernelIdeal.κ "neg" .f32 0xF149F2CA#32 ⊥ rfl,
  algebraic⟩

end Cert.Proof

end
